-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S3x1280x1536 : Shape := ⟨3, ![3, 1280, 1536]⟩
abbrev S1536 : Shape := ⟨1, ![1536]⟩
abbrev S50000x768 : Shape := ⟨2, ![50000, 768]⟩
abbrev S50000 : Shape := ⟨1, ![50000]⟩
abbrev S50000x1536 : Shape := ⟨2, ![50000, 1536]⟩
abbrev S3x1280x48 : Shape := ⟨3, ![3, 1280, 48]⟩
abbrev S_ : Shape := ⟨0, ![]⟩

class Facts : Prop where
  bcast_S_S3x1280x48 : S_.BroadcastsInDim S3x1280x48 (![] : Fin 0 → Fin S3x1280x48.rank)

variable [Facts]

def fn {F : FTy → Type} [FloatOps F] (main_arg0 : FVec F S3x1280x1536 .bf16) (main_arg1 : FVec F S1536 .f32) (main_arg2 : IVec S50000x768 8) (main_arg3 : FVec F S50000 .bf16) (main_arg4 : FVec F S50000 .bf16) (main_arg5 : IVec S50000x1536 8) (main_arg6 : IVec S3x1280x48 32) : IVec S3x1280x48 1 :=
  let main_c : IVec S_ 32 := constantI S_ 32 0#32
  let main_v0 : IVec S3x1280x48 32 := broadcastInDim S3x1280x48 ![] bcast_S_S3x1280x48 main_c
  let main_v1 : IVec S3x1280x48 1 := cmpi .sge main_arg6 main_v0
  let main_c_0 : IVec S_ 32 := constantI S_ 32 50000#32
  let main_v2 : IVec S3x1280x48 32 := broadcastInDim S3x1280x48 ![] bcast_S_S3x1280x48 main_c_0
  let main_v3 : IVec S3x1280x48 1 := cmpi .slt main_arg6 main_v2
  let main_v4 : IVec S3x1280x48 1 := andi main_v1 main_v3
  main_v4
-- ==== Kernel.lean ====
abbrev S3x1280x1536 : Shape := ⟨3, ![3, 1280, 1536]⟩
abbrev S1536 : Shape := ⟨1, ![1536]⟩
abbrev S50000x768 : Shape := ⟨2, ![50000, 768]⟩
abbrev S50000 : Shape := ⟨1, ![50000]⟩
abbrev S50000x1536 : Shape := ⟨2, ![50000, 1536]⟩
abbrev S3x1280x48 : Shape := ⟨3, ![3, 1280, 48]⟩
abbrev S3840x1536 : Shape := ⟨2, ![3840, 1536]⟩
abbrev S1x1536 : Shape := ⟨2, ![1, 1536]⟩
abbrev S3840x128 : Shape := ⟨2, ![3840, 128]⟩
abbrev S640x1536 : Shape := ⟨2, ![640, 1536]⟩
abbrev S640x128 : Shape := ⟨2, ![640, 128]⟩
abbrev S256x256 : Shape := ⟨2, ![256, 256]⟩
abbrev S640x256 : Shape := ⟨2, ![640, 256]⟩
abbrev S640 : Shape := ⟨1, ![640]⟩
abbrev S640x1 : Shape := ⟨2, ![640, 1]⟩
abbrev S3840x48 : Shape := ⟨2, ![3840, 48]⟩
abbrev S_ : Shape := ⟨0, ![]⟩
abbrev S1x50000 : Shape := ⟨2, ![1, 50000]⟩
abbrev S3840x50000 : Shape := ⟨2, ![3840, 50000]⟩
abbrev S256x768 : Shape := ⟨2, ![256, 768]⟩
abbrev S1x256 : Shape := ⟨2, ![1, 256]⟩
abbrev S256x1536 : Shape := ⟨2, ![256, 1536]⟩
abbrev S3840x256 : Shape := ⟨2, ![3840, 256]⟩
abbrev S256x128 : Shape := ⟨2, ![256, 128]⟩
abbrev S1x128 : Shape := ⟨2, ![1, 128]⟩
abbrev S256x128x1 : Shape := ⟨3, ![256, 128, 1]⟩
abbrev S3x1280x50000 : Shape := ⟨3, ![3, 1280, 50000]⟩

abbrev nBuf : Space → Nat
  | .hbm => 25
  | .vmem => 27
  | .smem => 0
  | _ => 0

abbrev bufTy : (tb : Table) → Fin (tcTables nBuf tb) → BufTy
  | .hbm, ⟨0, _⟩ => ⟨S3x1280x1536, .bf16⟩
  | .hbm, ⟨1, _⟩ => ⟨S1536, .f32⟩
  | .hbm, ⟨2, _⟩ => ⟨S50000x768, .i8⟩
  | .hbm, ⟨3, _⟩ => ⟨S50000, .bf16⟩
  | .hbm, ⟨4, _⟩ => ⟨S50000, .bf16⟩
  | .hbm, ⟨5, _⟩ => ⟨S50000x1536, .i8⟩
  | .hbm, ⟨6, _⟩ => ⟨S3x1280x48, .i32⟩
  | .hbm, ⟨7, _⟩ => ⟨S3840x1536, .bf16⟩
  | .hbm, ⟨8, _⟩ => ⟨S1x1536, .f32⟩
  | .hbm, ⟨9, _⟩ => ⟨S3840x1536, .bf16⟩
  | .hbm, ⟨10, _⟩ => ⟨S3840x128, .f32⟩
  | .hbm, ⟨11, _⟩ => ⟨S3840x128, .f32⟩
  | .hbm, ⟨12, _⟩ => ⟨S3840x48, .i32⟩
  | .hbm, ⟨13, _⟩ => ⟨S_, .i32⟩
  | .hbm, ⟨14, _⟩ => ⟨S_, .i32⟩
  | .hbm, ⟨15, _⟩ => ⟨S3840x128, .i32⟩
  | .hbm, ⟨16, _⟩ => ⟨S50000, .f32⟩
  | .hbm, ⟨17, _⟩ => ⟨S1x50000, .f32⟩
  | .hbm, ⟨18, _⟩ => ⟨S50000, .f32⟩
  | .hbm, ⟨19, _⟩ => ⟨S1x50000, .f32⟩
  | .hbm, ⟨20, _⟩ => ⟨S3840x50000, .f32⟩
  | .hbm, ⟨21, _⟩ => ⟨S3840x128, .f32⟩
  | .hbm, ⟨22, _⟩ => ⟨S3x1280x50000, .f32⟩
  | .hbm, ⟨23, _⟩ => ⟨S3840x48, .f32⟩
  | .hbm, ⟨24, _⟩ => ⟨S3x1280x48, .f32⟩
  | .local _ .vmem, ⟨0, _⟩ => ⟨S640x1536, .bf16⟩
  | .local _ .vmem, ⟨1, _⟩ => ⟨S640x1536, .bf16⟩
  | .local _ .vmem, ⟨2, _⟩ => ⟨S1x1536, .f32⟩
  | .local _ .vmem, ⟨3, _⟩ => ⟨S640x1536, .bf16⟩
  | .local _ .vmem, ⟨4, _⟩ => ⟨S640x1536, .bf16⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S3840x1536, .bf16⟩
  | .local _ .vmem, ⟨10, _⟩ => ⟨S3840x1536, .bf16⟩
  | .local _ .vmem, ⟨11, _⟩ => ⟨S3840x128, .f32⟩
  | .local _ .vmem, ⟨12, _⟩ => ⟨S3840x128, .f32⟩
  | .local _ .vmem, ⟨13, _⟩ => ⟨S3840x128, .i32⟩
  | .local _ .vmem, ⟨14, _⟩ => ⟨S256x768, .i8⟩
  | .local _ .vmem, ⟨15, _⟩ => ⟨S256x768, .i8⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x1536, .i8⟩
  | .local _ .vmem, ⟨21, _⟩ => ⟨S256x1536, .i8⟩
  | .local _ .vmem, ⟨22, _⟩ => ⟨S3840x256, .f32⟩
  | .local _ .vmem, ⟨23, _⟩ => ⟨S3840x256, .f32⟩
  | .local _ .vmem, ⟨24, _⟩ => ⟨S3840x128, .f32⟩
  | .local _ .vmem, ⟨25, _⟩ => ⟨S256x1536, .bf16⟩
  | .local _ .vmem, ⟨26, _⟩ => ⟨S256x1536, .bf16⟩
  | _, _ => ⟨S3x1280x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![196], ![false]⟩

@[reducible] def k1_t1_loop : Scf.Loop 32 :=
  let c0_i32_19 : BitVec 32 := 0#32
  let c15_i32_20 : BitVec 32 := 15#32
  let v68 : BitVec 32 := Scalar.addi c0_i32_19 c15_i32_20
  let c1_i32 : BitVec 32 := 1#32
  ⟨c0_i32_19, v68, c1_i32⟩
def k1_mult1 (k1_t1 : Fin k1_t1_loop.trips) : BitVec 32 :=
  let c0_i32_19 : BitVec 32 := 0#32
  let c1_i32 : BitVec 32 := 1#32
  let arg14 : BitVec 32 := Scf.iv c0_i32_19 c1_i32 k1_t1
  let c256_i32 : BitVec 32 := 256#32
  let v69 : BitVec 32 := Scalar.muli arg14 c256_i32
  v69
def k1_off1 (k1_t1 : Fin k1_t1_loop.trips) : Fin 2 → Nat :=
  let c0_i32_19 : BitVec 32 := 0#32
  let c1_i32 : BitVec 32 := 1#32
  let arg14 : BitVec 32 := Scf.iv c0_i32_19 c1_i32 k1_t1
  let c256_i32 : BitVec 32 := 256#32
  let v69 : BitVec 32 := Scalar.muli arg14 c256_i32
  let v70 : BitVec 32 := v69
  let v71 : Index := Scalar.indexCast v70
  let c0_22 : Index := 0#32
  ![v71.toNat, 0]
def k1_off2 (k1_t1 : Fin k1_t1_loop.trips) : Fin 2 → Nat :=
  let c0_i32_19 : BitVec 32 := 0#32
  let c1_i32 : BitVec 32 := 1#32
  let arg14 : BitVec 32 := Scf.iv c0_i32_19 c1_i32 k1_t1
  let c256_i32 : BitVec 32 := 256#32
  let v69 : BitVec 32 := Scalar.muli arg14 c256_i32
  let v70 : BitVec 32 := v69
  let v81 : Index := Scalar.indexCast v70
  let c0_29 : Index := 0#32
  ![v81.toNat, 0]
def k1_off3 (k1_t1 : Fin k1_t1_loop.trips) : Fin 2 → Nat :=
  let c0_i32_19 : BitVec 32 := 0#32
  let c1_i32 : BitVec 32 := 1#32
  let arg14 : BitVec 32 := Scf.iv c0_i32_19 c1_i32 k1_t1
  let c256_i32 : BitVec 32 := 256#32
  let v69 : BitVec 32 := Scalar.muli arg14 c256_i32
  let v70 : BitVec 32 := v69
  let v108 : Index := Scalar.indexCast v70
  let c0_37 : Index := 0#32
  ![v108.toNat, 0]
def k1_off4 (k1_t1 : Fin k1_t1_loop.trips) : Fin 2 → Nat :=
  let c0_i32_19 : BitVec 32 := 0#32
  let c1_i32 : BitVec 32 := 1#32
  let arg14 : BitVec 32 := Scf.iv c0_i32_19 c1_i32 k1_t1
  let c256_i32 : BitVec 32 := 256#32
  let v69 : BitVec 32 := Scalar.muli arg14 c256_i32
  let v70 : BitVec 32 := v69
  let v143 : Index := Scalar.indexCast v70
  let c128_46 : Index := 128#32
  ![v143.toNat, 128]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3840x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3840x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3840x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3840x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3840x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x768 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1536 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S3840x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S3840x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S3x1280x1536 : Shape := ⟨3, ![3, 1280, 1536]⟩
abbrev S1536 : Shape := ⟨1, ![1536]⟩
abbrev S50000x768 : Shape := ⟨2, ![50000, 768]⟩
abbrev S50000 : Shape := ⟨1, ![50000]⟩
abbrev S50000x1536 : Shape := ⟨2, ![50000, 1536]⟩
abbrev S3x1280x48 : Shape := ⟨3, ![3, 1280, 48]⟩
abbrev S_ : Shape := ⟨0, ![]⟩
abbrev S3x1280 : Shape := ⟨2, ![3, 1280]⟩
abbrev S3x1280x768 : Shape := ⟨3, ![3, 1280, 768]⟩
abbrev S3x1280x50000 : Shape := ⟨3, ![3, 1280, 50000]⟩
abbrev S3x1280x1 : Shape := ⟨3, ![3, 1280, 1]⟩
abbrev S1x1x50000 : Shape := ⟨3, ![1, 1, 50000]⟩
abbrev S3x1280x48x1 : Shape := ⟨4, ![3, 1280, 48, 1]⟩
abbrev S1 : Shape := ⟨1, ![1]⟩
abbrev S1x1x1x1 : Shape := ⟨4, ![1, 1, 1, 1]⟩
abbrev S3x1280x48x1536 : Shape := ⟨4, ![3, 1280, 48, 1536]⟩

abbrev nBuf : Space → Nat
  | .hbm => 93
  | .vmem => 0
  | .smem => 0
  | _ => 0

abbrev bufTy : (tb : Table) → Fin (tcTables nBuf tb) → BufTy
  | .hbm, ⟨0, _⟩ => ⟨S3x1280x1536, .bf16⟩
  | .hbm, ⟨1, _⟩ => ⟨S1536, .f32⟩
  | .hbm, ⟨2, _⟩ => ⟨S50000x768, .i8⟩
  | .hbm, ⟨3, _⟩ => ⟨S50000, .bf16⟩
  | .hbm, ⟨4, _⟩ => ⟨S50000, .bf16⟩
  | .hbm, ⟨5, _⟩ => ⟨S50000x1536, .i8⟩
  | .hbm, ⟨6, _⟩ => ⟨S3x1280x48, .i32⟩
  | .hbm, ⟨7, _⟩ => ⟨S3x1280x1536, .f32⟩
  | .hbm, ⟨8, _⟩ => ⟨S_, .f32⟩
  | .hbm, ⟨9, _⟩ => ⟨S3x1280, .f32⟩
  | .hbm, ⟨10, _⟩ => ⟨S3x1280, .f32⟩
  | .hbm, ⟨11, _⟩ => ⟨S50000x768, .i32⟩
  | .hbm, ⟨12, _⟩ => ⟨S_, .i32⟩
  | .hbm, ⟨13, _⟩ => ⟨S50000x768, .i32⟩
  | .hbm, ⟨14, _⟩ => ⟨S50000x768, .i32⟩
  | .hbm, ⟨15, _⟩ => ⟨S50000x768, .bf16⟩
  | .hbm, ⟨16, _⟩ => ⟨S_, .i32⟩
  | .hbm, ⟨17, _⟩ => ⟨S50000x768, .i32⟩
  | .hbm, ⟨18, _⟩ => ⟨S50000x768, .i32⟩
  | .hbm, ⟨19, _⟩ => ⟨S50000x768, .bf16⟩
  | .hbm, ⟨20, _⟩ => ⟨S3x1280x768, .bf16⟩
  | .hbm, ⟨21, _⟩ => ⟨S3x1280x50000, .f32⟩
  | .hbm, ⟨22, _⟩ => ⟨S3x1280x768, .bf16⟩
  | .hbm, ⟨23, _⟩ => ⟨S3x1280x50000, .f32⟩
  | .hbm, ⟨24, _⟩ => ⟨S50000, .f32⟩
  | .hbm, ⟨25, _⟩ => ⟨S50000, .f32⟩
  | .hbm, ⟨26, _⟩ => ⟨S3x1280x1, .f32⟩
  | .hbm, ⟨27, _⟩ => ⟨S3x1280x1, .f32⟩
  | .hbm, ⟨28, _⟩ => ⟨S1x1x50000, .f32⟩
  | .hbm, ⟨29, _⟩ => ⟨S3x1280x50000, .f32⟩
  | .hbm, ⟨30, _⟩ => ⟨S3x1280x50000, .f32⟩
  | .hbm, ⟨31, _⟩ => ⟨S3x1280x50000, .f32⟩
  | .hbm, ⟨32, _⟩ => ⟨S3x1280x50000, .f32⟩
  | .hbm, ⟨33, _⟩ => ⟨S3x1280x50000, .f32⟩
  | .hbm, ⟨34, _⟩ => ⟨S3x1280x50000, .f32⟩
  | .hbm, ⟨35, _⟩ => ⟨S1x1x50000, .f32⟩
  | .hbm, ⟨36, _⟩ => ⟨S3x1280x50000, .f32⟩
  | .hbm, ⟨37, _⟩ => ⟨S3x1280x50000, .f32⟩
  | .hbm, ⟨38, _⟩ => ⟨S3x1280x50000, .f32⟩
  | .hbm, ⟨39, _⟩ => ⟨S_, .i32⟩
  | .hbm, ⟨40, _⟩ => ⟨S3x1280x48, .i32⟩
  | .hbm, ⟨41, _⟩ => ⟨S3x1280x48, .i1⟩
  | .hbm, ⟨42, _⟩ => ⟨S_, .i32⟩
  | .hbm, ⟨43, _⟩ => ⟨S3x1280x48, .i32⟩
  | .hbm, ⟨44, _⟩ => ⟨S3x1280x48, .i32⟩
  | .hbm, ⟨45, _⟩ => ⟨S3x1280x48, .i32⟩
  | .hbm, ⟨46, _⟩ => ⟨S3x1280x48x1, .i32⟩
  | .hbm, ⟨47, _⟩ => ⟨S1, .i32⟩
  | .hbm, ⟨48, _⟩ => ⟨S_, .i32⟩
  | .hbm, ⟨49, _⟩ => ⟨S3x1280x48x1, .i32⟩
  | .hbm, ⟨50, _⟩ => ⟨S3x1280x48x1, .i1⟩
  | .hbm, ⟨51, _⟩ => ⟨S1x1x1x1, .i32⟩
  | .hbm, ⟨52, _⟩ => ⟨S3x1280x48x1, .i32⟩
  | .hbm, ⟨53, _⟩ => ⟨S3x1280x48x1, .i1⟩
  | .hbm, ⟨54, _⟩ => ⟨S3x1280x48x1, .i1⟩
  | .hbm, ⟨55, _⟩ => ⟨S_, .i1⟩
  | .hbm, ⟨56, _⟩ => ⟨S3x1280x48, .i1⟩
  | .hbm, ⟨57, _⟩ => ⟨S3x1280x48, .f32⟩
  | .hbm, ⟨58, _⟩ => ⟨S_, .f32⟩
  | .hbm, ⟨59, _⟩ => ⟨S3x1280x48, .f32⟩
  | .hbm, ⟨60, _⟩ => ⟨S3x1280x48, .f32⟩
  | .hbm, ⟨61, _⟩ => ⟨S_, .i32⟩
  | .hbm, ⟨62, _⟩ => ⟨S3x1280x48, .i32⟩
  | .hbm, ⟨63, _⟩ => ⟨S3x1280x48, .i1⟩
  | .hbm, ⟨64, _⟩ => ⟨S_, .i32⟩
  | .hbm, ⟨65, _⟩ => ⟨S3x1280x48, .i32⟩
  | .hbm, ⟨66, _⟩ => ⟨S3x1280x48, .i32⟩
  | .hbm, ⟨67, _⟩ => ⟨S3x1280x48, .i32⟩
  | .hbm, ⟨68, _⟩ => ⟨S3x1280x48x1, .i32⟩
  | .hbm, ⟨69, _⟩ => ⟨S3x1280x48x1536, .i8⟩
  | .hbm, ⟨70, _⟩ => ⟨S3x1280x48x1536, .i32⟩
  | .hbm, ⟨71, _⟩ => ⟨S3x1280x48x1536, .bf16⟩
  | .hbm, ⟨72, _⟩ => ⟨S3x1280x48, .f32⟩
  | .hbm, ⟨73, _⟩ => ⟨S_, .i32⟩
  | .hbm, ⟨74, _⟩ => ⟨S3x1280x48, .i32⟩
  | .hbm, ⟨75, _⟩ => ⟨S3x1280x48, .i1⟩
  | .hbm, ⟨76, _⟩ => ⟨S_, .i32⟩
  | .hbm, ⟨77, _⟩ => ⟨S3x1280x48, .i32⟩
  | .hbm, ⟨78, _⟩ => ⟨S3x1280x48, .i32⟩
  | .hbm, ⟨79, _⟩ => ⟨S3x1280x48, .i32⟩
  | .hbm, ⟨80, _⟩ => ⟨S3x1280x48x1, .i32⟩
  | .hbm, ⟨81, _⟩ => ⟨S3x1280x48, .f32⟩
  | .hbm, ⟨82, _⟩ => ⟨S_, .f32⟩
  | .hbm, ⟨83, _⟩ => ⟨S3x1280x48, .f32⟩
  | .hbm, ⟨84, _⟩ => ⟨S3x1280x48, .f32⟩
  | .hbm, ⟨85, _⟩ => ⟨S3x1280x1, .f32⟩
  | .hbm, ⟨86, _⟩ => ⟨S_, .f32⟩
  | .hbm, ⟨87, _⟩ => ⟨S3x1280x1, .f32⟩
  | .hbm, ⟨88, _⟩ => ⟨S3x1280x1, .f32⟩
  | .hbm, ⟨89, _⟩ => ⟨S3x1280x48, .f32⟩
  | .hbm, ⟨90, _⟩ => ⟨S3x1280x48, .f32⟩
  | .hbm, ⟨91, _⟩ => ⟨S3x1280x48, .f32⟩
  | .hbm, ⟨92, _⟩ => ⟨S3x1280x48, .f32⟩
  | _, _ => ⟨S3x1280x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_cst : Ref sig .tc := ⟨.hbm, 58, rfl⟩
abbrev main_call0_v14 : Ref sig .tc := ⟨.hbm, 59, rfl⟩
abbrev main_v29 : Ref sig .tc := ⟨.hbm, 60, rfl⟩
abbrev main_c_1 : Ref sig .tc := ⟨.hbm, 61, rfl⟩
abbrev main_v30 : Ref sig .tc := ⟨.hbm, 62, rfl⟩
abbrev main_v31 : Ref sig .tc := ⟨.hbm, 63, rfl⟩
abbrev main_c_2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_3 : Ref sig .tc := ⟨.hbm, 73, rfl⟩
abbrev main_v40 : Ref sig .tc := ⟨.hbm, 74, rfl⟩
abbrev main_v41 : Ref sig .tc := ⟨.hbm, 75, rfl⟩
abbrev main_c_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_5 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_6 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩

abbrev nD : Nat := 1
abbrev τ : Topo := Topo.v7x

variable {F : FTy → Type} [FloatOps F]
-- ==== Proof.RegionRel.lean ====
/-
  A kernel call of a program's @main whose body is proved with some result windows held to a predicate rather than to
  named contents. The call is entered with every unscoped buffer at `W c`; it is left with every one of them at
  `mk c A`, for some contents `A` of the windows' arrays that the write-backs may have left there.
-/
module

public import Idealize.ShloMosaic.Lib.Pipeline.RegionArraysF
public import Idealize.ShloMosaic.Lib.Pipeline.DatRel

@[expose] public section

noncomputable section

namespace Cert

open Idealize.ShloMosaic Idealize.ShloMosaic.TcCoe
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Pipeline Idealize.SL.RA.PCS
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type}

omit [Preorder Lvl] in
/-- The arrays after the call, at some contents the write-backs may have left. -/
theorem arraysAt_rel [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (pdats : (p : P) → (c : Dev nD) → Dat τ Val Ix Name U Lvl (pin pcs a p) c)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)
  (ι : Ix)
  (defs₀ : Defs nD τ sig Val Λ₀) (𝒱₀ : Variants)
  (L : GSem nD τ sig → Finset Ix) (lv : GSem nD τ sig → Ix → Lvl)
  (p : P)

/-- The family of proof data, each call's windows `fg q` held to `Rl q`. -/
abbrev relFam : (q : P) → (c : Dev nD) → RDat τ Val Ix Name U Lvl (pin pcs a q) c := fun q c => (pdats q c).toRRel (fg q) (Rl q c)

/-- What rides along: the random-number register at some value and the core owing nothing. -/
abbrev Rest (c : Dev nD) : sProp 𝕄 :=
  iprop((∃ r, prngReg c r) ∗ ∃ Wd, owes (c : Thread nD τ) (0 : CellTallies nD τ sig Ix) Wd)

/-- The contents of the windows' arrays that the write-backs may have left. -/
abbrev Left (c : Dev nD) : Type :=
  { A : (w : Fin (pin pcs a p).W) → Buf Val (((pin pcs a p).win w).arr.view.loc (c.tc : Thread nD τ)) //
    ∀ w, (relFam pcs a pdats fg Rl p c).ArrAt w (pin pcs a p).N (A w) }

/-- The call's record. -/
def regOf [∀ e, Nonempty (Val e)]
    (kit : PLaunchFacts (nD := nD) (τ := τ) pcs p) (hK : (pcs p).pre.K = 0)
    (hbody : ∀ c, (relFam pcs a pdats fg Rl p c).BodyObligation defs₀ 𝒱₀ ι Set.univ)
    (howed : ∀ c t, (pdats p c).owed t = 0) (hrec : ∀ c, (pdats p c).recorded 0 = Set.univ)
    (hshare : ∀ c w, (pdats p c).share w = fullShare)
    (hs : ∀ w, (arrRef (pcs p).spec w).isScoped = false)
    (W : Dev nD → Valuation τ sig Val)
    (mk : (c : Dev nD) → Left pcs a pdats fg Rl p c → Valuation τ sig Val)
    (hmkA : ∀ c A w, A.1 w = mk c A (Proc.devRef .tc (arrRef (pin pcs a p).spec w)))
    (hmkO : ∀ c A, ∀ d ∈ ucRefs τ sig \ arrRefs (pcs p).spec, mk c A d = W c d)
    (hin : ∀ c : Dev nD, iprop(scopedRest (pin pcs a p).spec c ∗ (∃ r, prngReg c r)) ⊢ (pdats p c).Φ 0)
    (hout : ∀ c : Dev nD, (pdats p c).Φ (Fin.last (pin pcs a p).N) ⊢ iprop(scopedRest (pin pcs a p).spec c ∗ (∃ r, prngReg c r)))
    (hW : ∀ c w, (pdats p c).A w = W c (Proc.devRef .tc (arrRef (pin pcs a p).spec w))) :
    RDat.RegionSeg pcs a (relFam pcs a pdats fg Rl) ι defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a (relFam pcs a pdats fg Rl) ι L lv p howed c
  pre c := iprop(StableHlo.held (c.tc : Thread nD τ) (ucRefs τ sig) (W c) ∗ Rest c)
  post c := iprop((∃ A : Left pcs a pdats fg Rl p c, StableHlo.held (c.tc : Thread nD τ) (ucRefs τ sig) (mk c A)) ∗ Rest c)
  X c := iprop(∃ r, prngReg c r)
  Y c := iprop(∃ r, prngReg c r)
  Z c := iprop(StableHlo.held (c.tc : Thread nD τ) (ucRefs τ sig \ arrRefs (pcs p).spec) (W c))
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hW c),
      StableHlo.held_sub_split (c.tc : Thread nD τ) (arrRefs_sub_ucRefs (pcs p).spec hs) (W c)]
    iintro ⟨⟨⟨Ha, Hr⟩, Hp, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := (show _ ⊢ iprop(scopedRest (pin pcs a p).spec c ∗ (∃ r, prngReg c r)) from by
    iintro ⟨Hp, -, Hr⟩
    isplitl [Hr]; · iexact Hr
    iexact Hp).trans (hin c)
  hout c := (hout c).trans (by
    rw [ownSems0_none]
    iintro ⟨Hr, Hp⟩
    isplitl [Hp]; · iexact Hp
    isplitr; · iempintro
    iexact Hr)
  hexit c := by
    show iprop((relFam pcs a pdats fg Rl p c).arraysAt (pin pcs a p).N ∗ (pdats p c).owesAt ι (Fin.last (pin pcs a p).N) ∗ _ ∗ _) ⊢ _
    iintro ⟨Ha, HO, Hp, Hr⟩
    ihave Ha := (arraysAt_rel (relFam pcs a pdats fg Rl p c) (pin pcs a p).N) $$ Ha
    icases Ha with ⟨%A, %hA, Ha⟩
    imodintro
    have e : ((relFam pcs a pdats fg Rl p c).arrays A : sProp 𝕄) = StableHlo.held (c.tc : Thread nD τ) (arrRefs (pcs p).spec) (mk c ⟨A, hA⟩) :=
      arrays_held pcs a pdats p kit c (hshare c) A (mk c ⟨A, hA⟩) (hmkA c ⟨A, hA⟩)
    isplitl [Ha Hr]
    · iexists (⟨A, hA⟩ : Left pcs a pdats fg Rl p c)
      rw [StableHlo.held_sub_split (c.tc : Thread nD τ) (arrRefs_sub_ucRefs (pcs p).spec hs) (mk c ⟨A, hA⟩), ← e,
        StableHlo.held_congr (c.tc : Thread nD τ) (S := ucRefs τ sig \ arrRefs (pcs p).spec) (hmkO c ⟨A, hA⟩)]
      isplitl [Ha]; · iexact Ha
      iexact Hr
    isplitl [Hp]; · iexact Hp
    unfold Dat.owesAt owesWithin
    rw [howed c (Fin.last _)]
    icases HO with ⟨%Wd, -, HO⟩; iexists Wd; iexact HO

end Cert

end
-- ==== Proof.Kernel.Prep.lean ====
/-
  The first call, `cc0_prep`: what one grid point (640 rows of the queries) leaves in its three result blocks — the
  permuted rows, the row sums, the rows' products with the mean — and the pipeline's proof data and body obligation,
  over whatever contents `V` the buffers have when the call is entered.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Prep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves -/

abbrev r0_0 : Rect S640x1536 := Rect.unit (s := S640x1536) ![0, 0] S640x1536.size inb_S640x1536_S640x1536_0_0
abbrev r0_1 : Rect S640x1536 := Rect.unit (s := S640x1536) ![0, 0] S640x256.size inb_S640x1536_S640x256_0_0
abbrev r0_2 : Rect S640x1536 := Rect.unit (s := S640x1536) ![0, 256] S640x256.size inb_S640x1536_S640x256_0_256
abbrev r0_3 : Rect S640x1536 := Rect.unit (s := S640x1536) ![0, 512] S640x256.size inb_S640x1536_S640x256_0_512
abbrev r0_4 : Rect S640x1536 := Rect.unit (s := S640x1536) ![0, 768] S640x256.size inb_S640x1536_S640x256_0_768
abbrev r0_5 : Rect S640x1536 := Rect.unit (s := S640x1536) ![0, 1024] S640x256.size inb_S640x1536_S640x256_0_1024
abbrev r0_6 : Rect S640x1536 := Rect.unit (s := S640x1536) ![0, 1280] S640x256.size inb_S640x1536_S640x256_0_1280
abbrev r0_7 : Rect S1x1536 := Rect.unit (s := S1x1536) ![0, 0] S1x1536.size inb_S1x1536_S1x1536_0_0
abbrev r0_8 : Rect S640x128 := Rect.unit (s := S640x128) ![0, 0] S640x128.size inb_S640x128_S640x128_0_0

/-- The permuted rows: six groups of 256 columns, each through one product with the permutation matrix. -/
def out0_2 (x0 : Vec F S640x1536 .bf16) (x1 : Vec F S1x1536 .f32) : Vec F S640x1536 .bf16 :=
  View.canon [⟨r0_6, k0_pay2 (k0_pay6 (View.ld x0 r0_0)) (k0_pay7 (F := F))⟩,
    ⟨r0_5, k0_pay1 (k0_pay7 (F := F)) (k0_pay12 (View.ld x0 r0_0))⟩,
    ⟨r0_4, k0_pay11 (View.ld x0 r0_0)⟩,
    ⟨r0_3, k0_pay10 (View.ld x0 r0_0)⟩,
    ⟨r0_2, k0_pay9 (View.ld x0 r0_0)⟩,
    ⟨r0_1, k0_pay8 (View.ld x0 r0_0)⟩]
theorem cover0_2 (p0 : Vec F S640x256 .bf16) (p1 : Vec F S640x256 .bf16) (p2 : Vec F S640x256 .bf16) (p3 : Vec F S640x256 .bf16) (p4 : Vec F S640x256 .bf16) (p5 : Vec F S640x256 .bf16) (y : S640x1536.Idx) :
    ∃ pc ∈ ([⟨r0_6, p0⟩, ⟨r0_5, p1⟩, ⟨r0_4, p2⟩, ⟨r0_3, p3⟩, ⟨r0_2, p4⟩, ⟨r0_1, p5⟩] : List (View.Piece (Elt F) S640x1536 .bf16)), y ∈ pc.1.set :=
  View.cover_of_tiled [⟨r0_6, p0⟩, ⟨r0_5, p1⟩, ⟨r0_4, p2⟩, ⟨r0_3, p3⟩, ⟨r0_2, p4⟩, ⟨r0_1, p5⟩] S640x256.size (by rfl) y

/-- The row sums, on every lane. -/
def out0_3 (x0 : Vec F S640x1536 .bf16) (x1 : Vec F S1x1536 .f32) : Vec F S640x128 .f32 :=
  View.canon [⟨r0_8, k0_pay4 (k0_pay6 (View.ld x0 r0_0))⟩]
theorem cover0_3 (p0 : Vec F S640x128 .f32) (y : S640x128.Idx) :
    ∃ pc ∈ ([⟨r0_8, p0⟩] : List (View.Piece (Elt F) S640x128 .f32)), y ∈ pc.1.set :=
  View.cover_of_tiled [⟨r0_8, p0⟩] S640x128.size (by rfl) y

/-- The rows' products with the mean, on every lane. -/
def out0_4 (x0 : Vec F S640x1536 .bf16) (x1 : Vec F S1x1536 .f32) : Vec F S640x128 .f32 :=
  View.canon [⟨r0_8, k0_pay5 (k0_pay6 (View.ld x0 r0_0)) (View.ld x1 r0_7)⟩]
theorem cover0_4 (p0 : Vec F S640x128 .f32) (y : S640x128.Idx) :
    ∃ pc ∈ ([⟨r0_8, p0⟩] : List (View.Piece (Elt F) S640x128 .f32)), y ∈ pc.1.set :=
  View.cover_of_tiled [⟨r0_8, p0⟩] S640x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S640x1536 .bf16) (harg1 : arg1.IsWhole) (arg2 : Memref sig .tc .vmem S1x1536 .f32) (harg2 : arg2.IsWhole) (arg3 : Memref sig .tc .vmem S640x1536 .bf16) (harg3 : arg3.IsWhole) (arg4 : Memref sig .tc .vmem S640x128 .f32) (harg4 : arg4.IsWhole) (arg5 : Memref sig .tc .vmem S640x128 .f32) (harg5 : arg5.IsWhole)
    (x0 : Vec F S640x1536 .bf16) (x1 : Vec F S1x1536 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_prep i arg1 harg1 arg2 harg2 arg3 harg3 arg4 harg4 arg5 harg5) K := by
  simp only [cc0_prep_eq_skeleton]; unfold cc0_prep_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the call finds them; each input's buffer at its block and each result's
at `out0_W` of the input blocks after the body; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
    | ⟨4, _⟩ => out0_4 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

/-- What the body leaves, window by window. -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]
theorem after0_4 (c : Dev nD) (t : Fin cfg0.N) : (dat V c).after 4 t = out0_4 (iblk V c 0 t) (iblk V c 1 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.Prep

end
-- ==== Proof.Kernel.Loop.lean ====
/-
  The scoring loop of `cc1_score`, generic in the values: what one trip (256 query rows) stores, and what the two
  result blocks read after all fifteen trips. The trip's pieces are read off the generated loop instance; the
  induction over its recursion gives each row of a result from the chunk that the row lies in.
-/
module

public import proofs.«01_k».proof.Proof.Gen.Kernel.Loops
public import proofs.«01_k».proof.Proof.Gen.Kernel.Points
public import Idealize.ShloMosaic.Lib.WritesUnit
public import Idealize.ShloMosaic.Lib.Pointwise.Index
public import Idealize.ShloMosaic.Lib.Pipeline.ValueKit.Basic
public import Idealize.ShloMosaic.Lib.Pipeline.ValueKit.Tiles

@[expose] public section

set_option maxRecDepth 16384

noncomputable section

namespace Cert.Kernel.Score

open Cert.Kernel Cert.Kernel.Gen
open Idealize.ShloMosaic Idealize.ShloMosaic.TcCoe
open Idealize.SL Idealize.SL.RA Idealize.SL.BI

variable {F : FTy → Type} [FloatOps F]

/-! ## Where a trip reads and writes -/

theorem trips_eq : k1_t1_loop.trips = 15 := by decide +kernel
theorem off1_eq (k : Fin k1_t1_loop.trips) : k1_off1 k = ![256 * k.val, 0] := by
  have h : ∀ k : Fin k1_t1_loop.trips, ∀ a, k1_off1 k a = (![256 * k.val, 0] : Fin 2 → ℕ) a := by decide +kernel
  exact funext (h k)
theorem off2_eq (k : Fin k1_t1_loop.trips) : k1_off2 k = ![256 * k.val, 0] := by
  have h : ∀ k : Fin k1_t1_loop.trips, ∀ a, k1_off2 k a = (![256 * k.val, 0] : Fin 2 → ℕ) a := by decide +kernel
  exact funext (h k)
theorem off3_eq (k : Fin k1_t1_loop.trips) : k1_off3 k = ![256 * k.val, 0] := by
  have h : ∀ k : Fin k1_t1_loop.trips, ∀ a, k1_off3 k a = (![256 * k.val, 0] : Fin 2 → ℕ) a := by decide +kernel
  exact funext (h k)
theorem off4_eq (k : Fin k1_t1_loop.trips) : k1_off4 k = ![256 * k.val, 128] := by
  have h : ∀ k : Fin k1_t1_loop.trips, ∀ a, k1_off4 k a = (![256 * k.val, 128] : Fin 2 → ℕ) a := by decide +kernel
  exact funext (h k)

/-- Rows `256 k …` of an array of query vectors. -/
abbrev rX (k : Fin k1_t1_loop.trips) : Rect S3840x1536 := Rect.unit (s := S3840x1536) (k1_off1 k) S256x1536.size (k1_off1_inb k)
/-- Rows `256 k …` of an array with 128 lanes. -/
abbrev rL (k : Fin k1_t1_loop.trips) : Rect S3840x128 := Rect.unit (s := S3840x128) (k1_off2 k) S256x128.size (k1_off2_inb k)
/-- The first and the second 128 columns of a row of 256. -/
abbrev rS0 : Rect S1x256 := Rect.unit (s := S1x256) ![0, 0] S1x128.size inb_S1x256_S1x128_0_0
abbrev rS1 : Rect S1x256 := Rect.unit (s := S1x256) ![0, 128] S1x128.size inb_S1x256_S1x128_0_128

/-- The trip that row `a` belongs to, and the row's place in the chunk. -/
def tripOf (a : Fin 3840) : Fin k1_t1_loop.trips := ⟨a.val / 256, by rw [trips_eq]; omega⟩
def rowIn (a : Fin 3840) : Fin 256 := ⟨a.val % 256, Nat.mod_lt _ (by decide)⟩
/-- A column of a tile, from the column of the block of 256. -/
def colLo (b : Fin 256) (h : b.val < 128) : Fin 128 := ⟨b.val, h⟩
def colHi (b : Fin 256) (h : ¬ b.val < 128) : Fin 128 := ⟨b.val - 128, by omega⟩

/-- Chunks of 256 rows and two tiles of 128 columns, laid out as one block of 3840 rows and 256 columns. -/
def asmP (lo hi : Fin k1_t1_loop.trips → FVec F S256x128 .f32) : Vec F S3840x256 .f32 := fun y =>
  if h : (show Fin 256 from y 1).val < 128 then lo (tripOf (y 0)) (ix2 (n0 := 256) (n1 := 128) (rowIn (y 0)) (colLo (y 1) h))
  else hi (tripOf (y 0)) (ix2 (n0 := 256) (n1 := 128) (rowIn (y 0)) (colHi (y 1) h))
/-- Chunks of 256 rows laid out as one block of 3840 rows. -/
def asmR (H : Fin k1_t1_loop.trips → FVec F S256x128 .f32) : Vec F S3840x128 .f32 := fun y =>
  H (tripOf (y 0)) (ix2 (n0 := 256) (n1 := 128) (rowIn (y 0)) (y 1))

section Chunk

variable (x0 x1 : Vec F S3840x1536 .bf16) (x2 x3 : Vec F S3840x128 .f32) (x4 : Vec F S3840x128 .i32)
  (x6 x7 : Vec F S1x256 .f32) (w r : Vec F S256x1536 .bf16) (a0 : BitVec 32)

/-- The primary scores of chunk `k` against the first 128 codes of the block, -/
def pLo (k : Fin k1_t1_loop.trips) : FVec F S256x128 .f32 :=
  k1_pay11 (View.ld x1 (rX k)) w (View.ld x2 (rL k)) (View.ld x3 (rL k)) (View.ld x7 rS0) (View.ld x6 rS0)
/-- and against the second 128. -/
def pHi (k : Fin k1_t1_loop.trips) : FVec F S256x128 .f32 :=
  k1_pay14 (k1_pay2 (View.ld x1 (rX k)) w) (k1_pay4 (View.ld x2 (rL k))) (k1_pay5 (View.ld x3 (rL k))) (View.ld x7 rS1) (View.ld x6 rS1)
/-- The refined scores of chunk `k` after the first 128 codes of the block, from those before it, -/
def accLo (k : Fin k1_t1_loop.trips) (acc : Vec F S256x128 .f32) : FVec F S256x128 .f32 :=
  k1_pay12 a0 (k1_pay3 (View.ld x0 (rX k)) r) (k1_pay4 (View.ld x2 (rL k))) (k1_pay7 (View.ld x4 (rL k))) (k1_pay8 (View.ld x4 (rL k)))
    (k1_pay9 acc) (k1_pay10 (View.ld x7 rS0)) (pLo x1 x2 x3 x6 x7 w k)
/-- and after the second 128. -/
def accHi (k : Fin k1_t1_loop.trips) (acc : Vec F S256x128 .f32) : FVec F S256x128 .f32 :=
  k1_pay1 a0 (k1_pay7 (View.ld x4 (rL k))) (k1_pay8 (View.ld x4 (rL k))) (accLo x0 x1 x2 x3 x4 x6 x7 w r a0 k acc)
    (pHi x1 x2 x3 x6 x7 w k) (k1_pay15 (k1_pay3 (View.ld x0 (rX k)) r) (k1_pay4 (View.ld x2 (rL k))) (View.ld x7 rS1))

/-- The block of primary scores that the body leaves. -/
def outP : Vec F S3840x256 .f32 := asmP (pLo x1 x2 x3 x6 x7 w) (pHi x1 x2 x3 x6 x7 w)

/-- The refined scores that the body leaves, from those that it finds (`Y`). -/
def outR (Y : Vec F S3840x128 .f32) : Vec F S3840x128 .f32 :=
  asmR (fun k => accHi x0 x1 x2 x3 x4 x6 x7 w r a0 k (View.ld Y (rL k)))

end Chunk

/-! ## One trip -/

set_option maxHeartbeats 4000000 in
/-- The pieces that one trip stores, in terms of what the buffers read. -/
theorem tripL_eq (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (k : Fin k1_t1_loop.trips) (f_arg10 : BufTy.Contents (Elt F) arg10.view.ty) (f_arg11 : BufTy.Contents (Elt F) arg11.view.ty) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 k f_arg10 f_arg11 =
      ([⟨Rect.unit (s := S3840x256) (k1_off4 k) S256x128.size (k1_off4_inb k), pHi (arg2.view.read (Elt F) X_arg2) (arg3.view.read (Elt F) X_arg3) (arg4.view.read (Elt F) X_arg4) (arg7.view.read (Elt F) X_arg7) (arg8.view.read (Elt F) X_arg8) (arg12.view.read (Elt F) X_arg12) k⟩,
        ⟨Rect.unit (s := S3840x256) (k1_off3 k) S256x128.size (k1_off3_inb k), pLo (arg2.view.read (Elt F) X_arg2) (arg3.view.read (Elt F) X_arg3) (arg4.view.read (Elt F) X_arg4) (arg7.view.read (Elt F) X_arg7) (arg8.view.read (Elt F) X_arg8) (arg12.view.read (Elt F) X_arg12) k⟩],
       [⟨rL k, accHi (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 k (View.ld (arg11.view.read (Elt F) f_arg11) (rL k))⟩]) := by
  have e12 : View.ld (arg12.view.read (Elt F) X_arg12) (Rect.unit (s := S256x1536) ![0, 0] S256x1536.size inb_S256x1536_S256x1536_0_0) = (arg12.view.read (Elt F) X_arg12) := View.ld_unit_lit _ _ (by decide)
  have e13 : View.ld (arg13.view.read (Elt F) X_arg13) (Rect.unit (s := S256x1536) ![0, 0] S256x1536.size inb_S256x1536_S256x1536_0_0) = (arg13.view.read (Elt F) X_arg13) := View.ld_unit_lit _ _ (by decide)
  unfold tripL_k1_t1 trip_k1_t1 accHi accLo pHi pLo
  dsimp only
  conv_rhs => rw [← e12, ← e13]
  rfl

/-! ## The trips together -/

/-- What the block of primary scores reads after the first `n` trips. -/
theorem read_trips_prim (m : Memref sig .tc .vmem S3840x256 .f32) (G : BufTy.Contents (Elt F) m.view.ty)
    (P : ℕ → List (View.Piece (Elt F) S3840x256 .f32)) (lo hi : Fin k1_t1_loop.trips → FVec F S256x128 .f32) (h0 : P 0 = [])
    (hs : ∀ k : Fin k1_t1_loop.trips, P (k.val + 1)
      = [⟨Rect.unit (s := S3840x256) (k1_off4 k) S256x128.size (k1_off4_inb k), hi k⟩,
         ⟨Rect.unit (s := S3840x256) (k1_off3 k) S256x128.size (k1_off3_inb k), lo k⟩] ++ P k.val) :
    ∀ n, n ≤ 15 → ∀ y : S3840x256.Idx,
      m.view.read (Elt F) (m.view.writes (Elt F) G (P n)) y
        = if (show Fin 3840 from y 0).val < 256 * n then asmP lo hi y else m.view.read (Elt F) G y := by
  intro n
  induction n with
  | zero =>
    intro _ y
    rw [h0, if_neg (by omega)]
    rfl
  | succ n ih =>
    intro hn y
    have hk : n < k1_t1_loop.trips := by rw [trips_eq]; omega
    have e := hs ⟨n, hk⟩
    dsimp only at e
    rw [e, List.cons_append, List.cons_append, List.nil_append]
    by_cases hrow : 256 * n ≤ (show Fin 3840 from y 0).val ∧ (show Fin 3840 from y 0).val < 256 * (n + 1)
    · have ht : tripOf (y 0) = ⟨n, hk⟩ := Fin.ext (by
        show (show Fin 3840 from y 0).val / 256 = n
        omega)
      have hr : (rowIn (y 0)).val = (show Fin 3840 from y 0).val - 256 * n := by
        show (show Fin 3840 from y 0).val % 256 = _
        omega
      rw [if_pos hrow.2]
      unfold asmP
      by_cases hc : (show Fin 256 from y 1).val < 128
      · rw [dif_pos hc, View.read_writes_cons_unit_of_not_mem m.view G (k1_off4_inb ⟨n, hk⟩) _ _ y (off4_eq ⟨n, hk⟩) 1
            (Or.inl hc),
          View.read_writes_cons_unit_of_mem m.view G (k1_off3_inb ⟨n, hk⟩) _ _ y
            (ix2 (n0 := 256) (n1 := 128) (rowIn (y 0)) (colLo (y 1) hc)) (off3_eq ⟨n, hk⟩) (Fin.forall_fin_two.mpr ⟨?_, ?_⟩), ht]
        · show (show Fin 3840 from y 0).val = 256 * n + (rowIn (y 0)).val
          omega
        · show (show Fin 256 from y 1).val = 0 + (show Fin 256 from y 1).val
          omega
      · rw [dif_neg hc, View.read_writes_cons_unit_of_mem m.view G (k1_off4_inb ⟨n, hk⟩) _ _ y
            (ix2 (n0 := 256) (n1 := 128) (rowIn (y 0)) (colHi (y 1) hc)) (off4_eq ⟨n, hk⟩) (Fin.forall_fin_two.mpr ⟨?_, ?_⟩), ht]
        · show (show Fin 3840 from y 0).val = 256 * n + (rowIn (y 0)).val
          omega
        · show (show Fin 256 from y 1).val = 128 + ((show Fin 256 from y 1).val - 128)
          omega
    · have hmiss : (show Fin 3840 from y 0).val < 256 * n ∨ 256 * n + 256 ≤ (show Fin 3840 from y 0).val := by omega
      rw [View.read_writes_cons_unit_of_not_mem m.view G (k1_off4_inb ⟨n, hk⟩) _ _ y (off4_eq ⟨n, hk⟩) 0 hmiss,
        View.read_writes_cons_unit_of_not_mem m.view G (k1_off3_inb ⟨n, hk⟩) _ _ y (off3_eq ⟨n, hk⟩) 0 hmiss,
        ih (by omega) y]
      by_cases hlt : (show Fin 3840 from y 0).val < 256 * n
      · rw [if_pos hlt, if_pos (by omega)]
      · rw [if_neg hlt, if_neg (by omega)]

/-- What the block of refined scores reads after the first `n` trips, each of which computes from what it finds. -/
theorem read_trips_ref (m : Memref sig .tc .vmem S3840x128 .f32) (G : BufTy.Contents (Elt F) m.view.ty)
    (P : ℕ → List (View.Piece (Elt F) S3840x128 .f32))
    (H : Fin k1_t1_loop.trips → Vec F S256x128 .f32 → FVec F S256x128 .f32) (h0 : P 0 = [])
    (hs : ∀ k : Fin k1_t1_loop.trips, P (k.val + 1)
      = [⟨rL k, H k (View.ld (m.view.read (Elt F) (m.view.writes (Elt F) G (P k.val))) (rL k))⟩] ++ P k.val) :
    ∀ n, n ≤ 15 → ∀ y : S3840x128.Idx,
      m.view.read (Elt F) (m.view.writes (Elt F) G (P n)) y
        = if (show Fin 3840 from y 0).val < 256 * n then asmR (fun k => H k (View.ld (m.view.read (Elt F) G) (rL k))) y
          else m.view.read (Elt F) G y := by
  intro n
  induction n with
  | zero =>
    intro _ y
    rw [h0, if_neg (by omega)]
    rfl
  | succ n ih =>
    intro hn y
    have hk : n < k1_t1_loop.trips := by rw [trips_eq]; omega
    have e := hs ⟨n, hk⟩
    dsimp only at e
    rw [e, List.cons_append, List.nil_append]
    have hfind : (View.ld (m.view.read (Elt F) (m.view.writes (Elt F) G (P n))) (rL ⟨n, hk⟩) : Vec F S256x128 .f32)
        = View.ld (m.view.read (Elt F) G) (rL ⟨n, hk⟩) := by
      funext x
      have e1 := ih (by omega) ((rL ⟨n, hk⟩).idx x)
      refine e1.trans (if_neg ?_)
      have h2 := congrFun (off2_eq ⟨n, hk⟩) 0
      have h3 : (show Fin 3840 from (rL ⟨n, hk⟩).idx x 0).val = k1_off2 ⟨n, hk⟩ 0 + (x 0).val :=
        Rect.idx_unit_val (s := S3840x128) (k1_off2 ⟨n, hk⟩) S256x128.size (k1_off2_inb ⟨n, hk⟩) x 0
      have h4 : k1_off2 ⟨n, hk⟩ 0 = 256 * n := h2
      omega
    by_cases hrow : 256 * n ≤ (show Fin 3840 from y 0).val ∧ (show Fin 3840 from y 0).val < 256 * (n + 1)
    · have ht : tripOf (y 0) = ⟨n, hk⟩ := Fin.ext (by
        show (show Fin 3840 from y 0).val / 256 = n
        omega)
      have hr : (rowIn (y 0)).val = (show Fin 3840 from y 0).val - 256 * n := by
        show (show Fin 3840 from y 0).val % 256 = _
        omega
      rw [if_pos hrow.2]
      unfold asmR
      rw [View.read_writes_cons_unit_of_mem m.view G (k1_off2_inb ⟨n, hk⟩) _ _ y
            (ix2 (n0 := 256) (n1 := 128) (rowIn (y 0)) (y 1)) (off2_eq ⟨n, hk⟩) (Fin.forall_fin_two.mpr ⟨?_, ?_⟩), ht, hfind]
      · show (show Fin 3840 from y 0).val = 256 * n + (rowIn (y 0)).val
        omega
      · show (show Fin 128 from y 1).val = 0 + (show Fin 128 from y 1).val
        omega
    · have hmiss : (show Fin 3840 from y 0).val < 256 * n ∨ 256 * n + 256 ≤ (show Fin 3840 from y 0).val := by omega
      rw [View.read_writes_cons_unit_of_not_mem m.view G (k1_off2_inb ⟨n, hk⟩) _ _ y (off2_eq ⟨n, hk⟩) 0 hmiss,
        ih (by omega) y]
      by_cases hlt : (show Fin 3840 from y 0).val < 256 * n
      · rw [if_pos hlt, if_pos (by omega)]
      · rw [if_neg hlt, if_neg (by omega)]

/-- The two result blocks after the loop. -/
theorem read_loop_prim (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (G_arg10 : BufTy.Contents (Elt F) arg10.view.ty) (G_arg11 : BufTy.Contents (Elt F) arg11.view.ty) :
    arg10.view.read (Elt F) (arg10.view.writes (Elt F) G_arg10 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 k1_t1_loop.trips).1)
      = outP (arg2.view.read (Elt F) X_arg2) (arg3.view.read (Elt F) X_arg3) (arg4.view.read (Elt F) X_arg4) (arg7.view.read (Elt F) X_arg7) (arg8.view.read (Elt F) X_arg8) (arg12.view.read (Elt F) X_arg12) := by
  funext y
  have h := read_trips_prim arg10 G_arg10 (fun n => (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 n).1)
    (pLo (arg2.view.read (Elt F) X_arg2) (arg3.view.read (Elt F) X_arg3) (arg4.view.read (Elt F) X_arg4) (arg7.view.read (Elt F) X_arg7) (arg8.view.read (Elt F) X_arg8) (arg12.view.read (Elt F) X_arg12)) (pHi (arg2.view.read (Elt F) X_arg2) (arg3.view.read (Elt F) X_arg3) (arg4.view.read (Elt F) X_arg4) (arg7.view.read (Elt F) X_arg7) (arg8.view.read (Elt F) X_arg8) (arg12.view.read (Elt F) X_arg12)) rfl
    (fun k => by rw [pb_k1_t1_succ, tripL_eq]) 15 le_rfl y
  rw [if_pos (by have := (show Fin 3840 from y 0).isLt; omega)] at h
  rw [trips_eq]
  exact h
theorem read_loop_ref (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (G_arg10 : BufTy.Contents (Elt F) arg10.view.ty) (G_arg11 : BufTy.Contents (Elt F) arg11.view.ty) :
    arg11.view.read (Elt F) (arg11.view.writes (Elt F) G_arg11 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 k1_t1_loop.trips).2)
      = outR (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 (arg11.view.read (Elt F) G_arg11) := by
  funext y
  have h := read_trips_ref arg11 G_arg11 (fun n => (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 n).2)
    (fun k acc => accHi (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 k acc) rfl
    (fun k => by rw [pb_k1_t1_succ, tripL_eq]) 15 le_rfl y
  rw [if_pos (by have := (show Fin 3840 from y 0).isLt; omega)] at h
  rw [trips_eq]
  exact h

end Cert.Kernel.Score

end
-- ==== Proof.Kernel.Body.lean ====
/-
  The second call, `cc1_score`: what one grid point leaves. The body decodes its block of primary codes into one
  scratch array (twelve stores of 128 columns) and its block of residual codes into another, clears the refined scores
  at the first point, and runs the loop of Loop.lean.
-/
module

public import proofs.«01_k».proof.Proof.Kernel.Loop
public import proofs.«01_k».proof.Proof.Gen.Kernel.Launch
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Score

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rC : Rect S256x768 := Rect.unit (s := S256x768) ![0, 0] S256x768.size inb_S256x768_S256x768_0_0
abbrev rR : Rect S256x1536 := Rect.unit (s := S256x1536) ![0, 0] S256x1536.size inb_S256x1536_S256x1536_0_0
abbrev rQ : Rect S3840x128 := Rect.unit (s := S3840x128) ![0, 0] S3840x128.size inb_S3840x128_S3840x128_0_0
abbrev rW0 : Rect S256x1536 := Rect.unit (s := S256x1536) ![0, 0] S256x128.size inb_S256x1536_S256x128_0_0
abbrev rW1 : Rect S256x1536 := Rect.unit (s := S256x1536) ![0, 128] S256x128.size inb_S256x1536_S256x128_0_128
abbrev rW2 : Rect S256x1536 := Rect.unit (s := S256x1536) ![0, 256] S256x128.size inb_S256x1536_S256x128_0_256
abbrev rW3 : Rect S256x1536 := Rect.unit (s := S256x1536) ![0, 384] S256x128.size inb_S256x1536_S256x128_0_384
abbrev rW4 : Rect S256x1536 := Rect.unit (s := S256x1536) ![0, 512] S256x128.size inb_S256x1536_S256x128_0_512
abbrev rW5 : Rect S256x1536 := Rect.unit (s := S256x1536) ![0, 640] S256x128.size inb_S256x1536_S256x128_0_640
abbrev rW6 : Rect S256x1536 := Rect.unit (s := S256x1536) ![0, 768] S256x128.size inb_S256x1536_S256x128_0_768
abbrev rW7 : Rect S256x1536 := Rect.unit (s := S256x1536) ![0, 896] S256x128.size inb_S256x1536_S256x128_0_896
abbrev rW8 : Rect S256x1536 := Rect.unit (s := S256x1536) ![0, 1024] S256x128.size inb_S256x1536_S256x128_0_1024
abbrev rW9 : Rect S256x1536 := Rect.unit (s := S256x1536) ![0, 1152] S256x128.size inb_S256x1536_S256x128_0_1152
abbrev rW10 : Rect S256x1536 := Rect.unit (s := S256x1536) ![0, 1280] S256x128.size inb_S256x1536_S256x128_0_1280
abbrev rW11 : Rect S256x1536 := Rect.unit (s := S256x1536) ![0, 1408] S256x128.size inb_S256x1536_S256x128_0_1408

/-- The decoded primary codes: low and high nibbles in alternating groups of 128 columns. -/
def wOf (x5 : Vec F S256x768 .i8) : Vec F S256x1536 .bf16 :=
  View.canon [⟨rW11, k1_pay32 (k1_pay19 (View.ld x5 rC))⟩,
    ⟨rW10, k1_pay31 (k1_pay18 (View.ld x5 rC))⟩,
    ⟨rW9, k1_pay30 (k1_pay19 (View.ld x5 rC))⟩,
    ⟨rW8, k1_pay29 (k1_pay18 (View.ld x5 rC))⟩,
    ⟨rW7, k1_pay28 (k1_pay19 (View.ld x5 rC))⟩,
    ⟨rW6, k1_pay27 (k1_pay18 (View.ld x5 rC))⟩,
    ⟨rW5, k1_pay26 (k1_pay25 (View.ld x5 rC))⟩,
    ⟨rW4, k1_pay24 (View.ld x5 rC)⟩,
    ⟨rW3, k1_pay23 (View.ld x5 rC)⟩,
    ⟨rW2, k1_pay22 (View.ld x5 rC)⟩,
    ⟨rW1, k1_pay21 (View.ld x5 rC)⟩,
    ⟨rW0, k1_pay20 (View.ld x5 rC)⟩]
theorem cover12 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (y : S256x1536.Idx) :
    ∃ pc ∈ ([⟨rW11, p11⟩, ⟨rW10, p10⟩, ⟨rW9, p9⟩, ⟨rW8, p8⟩, ⟨rW7, p7⟩, ⟨rW6, p6⟩, ⟨rW5, p5⟩, ⟨rW4, p4⟩, ⟨rW3, p3⟩, ⟨rW2, p2⟩, ⟨rW1, p1⟩, ⟨rW0, p0⟩] : List (View.Piece (Elt F) S256x1536 .bf16)), y ∈ pc.1.set :=
  View.cover_of_tiled [⟨rW11, p11⟩, ⟨rW10, p10⟩, ⟨rW9, p9⟩, ⟨rW8, p8⟩, ⟨rW7, p7⟩, ⟨rW6, p6⟩, ⟨rW5, p5⟩, ⟨rW4, p4⟩, ⟨rW3, p3⟩, ⟨rW2, p2⟩, ⟨rW1, p1⟩, ⟨rW0, p0⟩] S256x128.size (by rfl) y

/-- The decoded residual codes. -/
def rOf (x8 : Vec F S256x1536 .i8) : Vec F S256x1536 .bf16 := View.canon [⟨rR, k1_pay33 (View.ld x8 rR)⟩]
theorem cover13 (p : Vec F S256x1536 .bf16) (y : S256x1536.Idx) :
    ∃ pc ∈ ([⟨rR, p⟩] : List (View.Piece (Elt F) S256x1536 .bf16)), y ∈ pc.1.set :=
  View.cover_of_tiled [⟨rR, p⟩] S256x1536.size (by rfl) y
theorem cover11 (p : Vec F S3840x128 .f32) (y : S3840x128.Idx) :
    ∃ pc ∈ ([⟨rQ, p⟩] : List (View.Piece (Elt F) S3840x128 .f32)), y ∈ pc.1.set :=
  View.cover_of_tiled [⟨rQ, p⟩] S3840x128.size (by rfl) y
theorem canon11 (p : Vec F S3840x128 .f32) : View.canon [(⟨rQ, p⟩ : View.Piece (Elt F) S3840x128 .f32)] = p :=
  View.canon_unit_zero (by funext a; fin_cases a <;> rfl) _ _

/-- The test at the head of the body: is this the first grid point? -/
def isFirst (i : grid1.Coords) : Prop :=
  (Scalar.cmpi .ne (Scalar.extui (Scalar.cmpi .eq (BitVec.ofNat 32 (i 0).val) 0#32) : BitVec 32) 0#32 : BitVec 1) = 1#1
instance (i : grid1.Coords) : Decidable (isFirst i) := by unfold isFirst; infer_instance
/-- The refined scores as the loop finds them: cleared at the first point. -/
def startR (i : grid1.Coords) (Y : Vec F S3840x128 .f32) : Vec F S3840x128 .f32 := if isFirst i then k1_pay16 (F := F) else Y
theorem startR_pos (i : grid1.Coords) (Y : Vec F S3840x128 .f32) (h : isFirst i) : startR i Y = k1_pay16 (F := F) := if_pos h
theorem startR_neg (i : grid1.Coords) (Y : Vec F S3840x128 .f32) (h : ¬ isFirst i) : startR i Y = Y := if_neg h

theorem outR_congr {x0 x1 : Vec F S3840x1536 .bf16} {x2 x3 : Vec F S3840x128 .f32} {x4 : Vec F S3840x128 .i32}
    {x6 x7 : Vec F S1x256 .f32} {w w' r r' : Vec F S256x1536 .bf16} {a : BitVec 32} {Y Y' : Vec F S3840x128 .f32}
    (hw : w = w') (hr : r = r') (hY : Y = Y') :
    outR x0 x1 x2 x3 x4 x6 x7 w r a Y = outR x0 x1 x2 x3 x4 x6 x7 w' r' a Y' := by rw [hw, hr, hY]

set_option maxHeartbeats 4000000 in
/-- The body on whole staging memrefs, the inputs' at contents `xW` and the refined scores' at `Y`, runs to the
    continuation holding the inputs as they were, the primary scores of the block and the refined scores updated. -/
theorem sound_score (c : Dev nD) (E : Set ℕ) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole)
    (x0 : Vec F S3840x1536 .bf16) (x1 : Vec F S3840x1536 .bf16) (x2 : Vec F S3840x128 .f32) (x3 : Vec F S3840x128 .f32) (x4 : Vec F S3840x128 .i32) (x5 : Vec F S256x768 .i8) (x6 : Vec F S1x256 .f32) (x7 : Vec F S1x256 .f32) (x8 : Vec F S256x1536 .i8) (Y : Vec F S3840x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare Y ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outP x1 x2 x3 x6 x7 (wOf x5)) ∗ owns (c : Thread nD τ) arg11 fullShare (outR x0 x1 x2 x3 x4 x6 x7 (wOf x5) (rOf x8) (BitVec.ofNat 32 (i 0).val) (startR i Y)) ∗ (∃ d, owns (c : Thread nD τ) arg12 fullShare d) ∗ (∃ d, owns (c : Thread nD τ) arg13 fullShare d)) -∗ K ⟨⟩))
      ⊢ wp frame (wpE (defs₀ (F := F)) Variants.none c none) E (cc1_score i arg1 harg1 arg2 harg2 arg3 harg3 arg4 harg4 arg5 harg5 arg6 harg6 arg7 harg7 arg8 harg8 arg9 harg9 arg10 harg10 arg11 harg11 arg12 harg12 arg13 harg13) K := by
  simp only [cc1_score_eq_skeleton]; unfold cc1_score_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, Hk⟩
  subst hf0 hf1 hf2 hf3 hf4 hf5 hf6 hf7 hf8 hf10
  by_cases hz : isFirst i
  · have hz' := hz
    unfold isFirst at hz'
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact (read_loop_prim _ _ _ _ _ _ _ _ _ _ _ _ _ _ _ _ _ _ _ _ _ _ _ _ _ _ _ _ _ _ _ _ _ _ _ _ _ _ _ _ _ _ _).trans
        (congrArg (outP _ _ _ _ _) (View.read_writes_eq_canon _ _ _ (cover12 (F := F) _ _ _ _ _ _ _ _ _ _ _ _)))
    isplitl [H10]
    · iexists _; isplitr
      swap; · iexact H10
      ipureintro
      rw [View.writes_append]
      refine (read_loop_ref _ _ _ _ _ _ _ _ _ _ _ _ _ _ _ _ _ _ _ _ _ _ _ _ _ _ _ _ _ _ _ _ _ _ _ _ _ _ _ _ _ _ _).trans
        (outR_congr (View.read_writes_eq_canon _ _ _ (cover12 (F := F) _ _ _ _ _ _ _ _ _ _ _ _)) (View.read_writes_eq_canon _ _ _ (cover13 (F := F) _)) ?_)
      exact (View.read_writes_eq_canon _ _ _ (cover11 (F := F) _)).trans ((canon11 _).trans (startR_pos (F := F) i _ hz).symm)
    isplitl [H11]
    · iexists _; iexists _; isplitr
      swap; · iexact H11
      ipureintro; rfl
    iexists _; iexists _; isplitr
    swap; · iexact H12
    ipureintro; rfl
  · have hz' := hz
    unfold isFirst at hz'
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact (read_loop_prim _ _ _ _ _ _ _ _ _ _ _ _ _ _ _ _ _ _ _ _ _ _ _ _ _ _ _ _ _ _ _ _ _ _ _ _ _ _ _ _ _ _ _).trans
        (congrArg (outP _ _ _ _ _) (View.read_writes_eq_canon _ _ _ (cover12 (F := F) _ _ _ _ _ _ _ _ _ _ _ _)))
    isplitl [H10]
    · iexists _; isplitr
      swap; · iexact H10
      ipureintro
      refine (read_loop_ref _ _ _ _ _ _ _ _ _ _ _ _ _ _ _ _ _ _ _ _ _ _ _ _ _ _ _ _ _ _ _ _ _ _ _ _ _ _ _ _ _ _ _).trans
        (outR_congr (View.read_writes_eq_canon _ _ _ (cover12 (F := F) _ _ _ _ _ _ _ _ _ _ _ _)) (View.read_writes_eq_canon _ _ _ (cover13 (F := F) _)) ?_)
      exact (startR_neg i _ hz).symm
    isplitl [H11]
    · iexists _; iexists _; isplitr
      swap; · iexact H11
      ipureintro; rfl
    iexists _; iexists _; isplitr
    swap; · iexact H12
    ipureintro; rfl

end Cert.Kernel.Score

end
-- ==== Proof.Kernel.Obl.lean ====
/-
  The second call's proof data and body obligation, over whatever contents `V` the buffers have when the call is
  entered. Four inputs come in blocks that the last grid point cuts short, so the staging buffers there hold
  whatever was in them before; what the two results hold is stated by two predicates (`P9` of the primary scores'
  block, `P10` of the refined scores') that are parameters here: the body meets them if the values of Body.lean do.
-/
module

public import proofs.«01_k».proof.Proof.Kernel.Body
public import Idealize.ShloMosaic.Lib.Pipeline.DatRel

@[expose] public section

set_option maxRecDepth 16384

noncomputable section

namespace Cert.Kernel.Score

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffers: the blocks, and for the windows that may be cut short the blocks over what was there (`d`). -/
abbrev blk0 (c : Dev nD) (t : Fin cfg1.N) : Vec F S3840x1536 .bf16 := iblk V c 0 t
abbrev blk1 (c : Dev nD) (t : Fin cfg1.N) : Vec F S3840x1536 .bf16 := iblk V c 1 t
abbrev blk2 (c : Dev nD) (t : Fin cfg1.N) : Vec F S3840x128 .f32 := iblk V c 2 t
abbrev blk3 (c : Dev nD) (t : Fin cfg1.N) : Vec F S3840x128 .f32 := iblk V c 3 t
abbrev blk4 (c : Dev nD) (t : Fin cfg1.N) : Vec F S3840x128 .i32 := iblk V c 4 t
abbrev blk5 (c : Dev nD) (t : Fin cfg1.N) (d : Vec F S256x768 .i8) : Vec F S256x768 .i8 := (cfg1.win 5).fill (cfg1.grid.coords t) d (iblk V c 5 t)
abbrev blk6 (c : Dev nD) (t : Fin cfg1.N) (d : Vec F S1x256 .f32) : Vec F S1x256 .f32 := (cfg1.win 6).fill (cfg1.grid.coords t) d (iblk V c 6 t)
abbrev blk7 (c : Dev nD) (t : Fin cfg1.N) (d : Vec F S1x256 .f32) : Vec F S1x256 .f32 := (cfg1.win 7).fill (cfg1.grid.coords t) d (iblk V c 7 t)
abbrev blk8 (c : Dev nD) (t : Fin cfg1.N) (d : Vec F S256x1536 .i8) : Vec F S256x1536 .i8 := (cfg1.win 8).fill (cfg1.grid.coords t) d (iblk V c 8 t)

/-- Contents where nothing is claimed. -/
def fill5 : Vec F S256x768 .i8 := fun _ => (0#8 : BitVec 8)
def fill6 : Vec F S1x256 .f32 := constant S1x256 .f32 0x00000000#32
def fill7 : Vec F S1x256 .f32 := constant S1x256 .f32 0x00000000#32
def fill8 : Vec F S256x1536 .i8 := fun _ => (0#8 : BitVec 8)
def fill9 : Vec F S3840x256 .f32 := constant S3840x256 .f32 0x00000000#32
def fill10 : Vec F S3840x128 .f32 := constant S3840x128 .f32 0x00000000#32

/-! ## The proof data -/

/-- The proof data on core `c`: the arrays as the call finds them; the inputs' buffers at their blocks; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => blk5 V c t (fill5 (F := F))
    | ⟨6, _⟩ => blk6 V c t (fill6 (F := F))
    | ⟨7, _⟩ => blk7 V c t (fill7 (F := F))
    | ⟨8, _⟩ => blk8 V c t (fill8 (F := F))
    | ⟨9, _⟩ => fill9 (F := F)
    | ⟨10, _⟩ => fill10 (F := F)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem after1_1 (c : Dev nD) (t : Fin cfg1.N) : (dat V c).after 1 t = iblk V c 1 t := by dsimp only [dat]
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem after1_2 (c : Dev nD) (t : Fin cfg1.N) : (dat V c).after 2 t = iblk V c 2 t := by dsimp only [dat]
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem after1_3 (c : Dev nD) (t : Fin cfg1.N) : (dat V c).after 3 t = iblk V c 3 t := by dsimp only [dat]
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem after1_4 (c : Dev nD) (t : Fin cfg1.N) : (dat V c).after 4 t = iblk V c 4 t := by dsimp only [dat]
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem after1_5 (c : Dev nD) (t : Fin cfg1.N) (d) :
    (cfg1.win 5).fill (cfg1.grid.coords t) d ((cfg1.win 5).cut (cfg1.grid.coords t) ((dat V c).after 5 t)) = blk5 V c t d := by
  rw [show (dat V c).after 5 t = blk5 V c t (fill5 (F := F)) by dsimp only [dat]]
  unfold blk5
  rw [Pipeline.Window.cut_fill]
theorem before1_5 (c : Dev nD) (t : Fin cfg1.N) (d) : (dat V c).before 5 t d = blk5 V c t d := by
  unfold Dat.before
  rw [if_pos (fetch1_5 t)]
  unfold Dat.fetched Dat.blockOf blk5 iblk
  rw [A_eq]
theorem after1_6 (c : Dev nD) (t : Fin cfg1.N) (d) :
    (cfg1.win 6).fill (cfg1.grid.coords t) d ((cfg1.win 6).cut (cfg1.grid.coords t) ((dat V c).after 6 t)) = blk6 V c t d := by
  rw [show (dat V c).after 6 t = blk6 V c t (fill6 (F := F)) by dsimp only [dat]]
  unfold blk6
  rw [Pipeline.Window.cut_fill]
theorem before1_6 (c : Dev nD) (t : Fin cfg1.N) (d) : (dat V c).before 6 t d = blk6 V c t d := by
  unfold Dat.before
  rw [if_pos (fetch1_6 t)]
  unfold Dat.fetched Dat.blockOf blk6 iblk
  rw [A_eq]
theorem after1_7 (c : Dev nD) (t : Fin cfg1.N) (d) :
    (cfg1.win 7).fill (cfg1.grid.coords t) d ((cfg1.win 7).cut (cfg1.grid.coords t) ((dat V c).after 7 t)) = blk7 V c t d := by
  rw [show (dat V c).after 7 t = blk7 V c t (fill7 (F := F)) by dsimp only [dat]]
  unfold blk7
  rw [Pipeline.Window.cut_fill]
theorem before1_7 (c : Dev nD) (t : Fin cfg1.N) (d) : (dat V c).before 7 t d = blk7 V c t d := by
  unfold Dat.before
  rw [if_pos (fetch1_7 t)]
  unfold Dat.fetched Dat.blockOf blk7 iblk
  rw [A_eq]
theorem after1_8 (c : Dev nD) (t : Fin cfg1.N) (d) :
    (cfg1.win 8).fill (cfg1.grid.coords t) d ((cfg1.win 8).cut (cfg1.grid.coords t) ((dat V c).after 8 t)) = blk8 V c t d := by
  rw [show (dat V c).after 8 t = blk8 V c t (fill8 (F := F)) by dsimp only [dat]]
  unfold blk8
  rw [Pipeline.Window.cut_fill]
theorem before1_8 (c : Dev nD) (t : Fin cfg1.N) (d) : (dat V c).before 8 t d = blk8 V c t d := by
  unfold Dat.before
  rw [if_pos (fetch1_8 t)]
  unfold Dat.fetched Dat.blockOf blk8 iblk
  rw [A_eq]

/-- The windows held to a predicate: the two results. -/
def fgt : Fin cfg1.W → Bool := fun | ⟨9, _⟩ => true | ⟨10, _⟩ => true | _ => false
/-- The predicates. -/
def Rl (P9 : Fin cfg1.N → Vec F S3840x256 .f32 → Prop) (P10 : Fin cfg1.N → Vec F S3840x128 .f32 → Prop) :
    (w : Fin cfg1.W) → Fin cfg1.N → ((cfg1.win w).block.Idx → Elt F (cfg1.win w).elt) → Prop :=
  fun | ⟨9, _⟩ => P9 | ⟨10, _⟩ => P10 | _ => fun _ _ => True

variable (P9 : Dev nD → Fin cfg1.N → Vec F S3840x256 .f32 → Prop) (P10 : Dev nD → Fin cfg1.N → Vec F S3840x128 .f32 → Prop)

/-- The point before. -/
def prev (t : Fin cfg1.N) : Fin cfg1.N := ⟨t.val - 1, Nat.lt_of_le_of_lt (Nat.sub_le _ _) t.isLt⟩

/-- What is asked of the predicates: the values of the body meet them, at any fillers and from what the previous
    point's predicate says of the refined scores. -/
def Meets : Prop :=
  (∀ (c : Dev nD) (t : Fin cfg1.N) d5 d6 d7, P9 c t (outP (F := F) (blk1 V c t) (blk2 V c t) (blk3 V c t) (blk6 V c t d6) (blk7 V c t d7) (wOf (blk5 V c t d5))))
  ∧ ∀ (c : Dev nD) (t : Fin cfg1.N) d5 d6 d7 d8 Y, (t.val ≠ 0 → P10 c (prev t) Y) → P10 c t (outR (F := F) (blk0 V c t) (blk1 V c t) (blk2 V c t) (blk3 V c t) (blk4 V c t) (blk6 V c t d6) (blk7 V c t d7) (wOf (blk5 V c t d5)) (rOf (blk8 V c t d8)) (BitVec.ofNat 32 (grid1.coords t 0).val) (startR (grid1.coords t) Y))

variable {P9 P10}

/-! ## The body obligation -/

theorem finds10 (c : Dev nD) (t : Fin cfg1.N) (Y : Vec F S3840x128 .f32)
    (h : ((dat V c).toRRel fgt (Rl (P9 c) (P10 c))).Finds 10 t Y) (ht : t.val ≠ 0) : P10 c (prev t) Y := by
  have hN : t.val < 196 := t.isLt
  rcases (RDat.finds_of_pos _ (w := 10) rfl ht Y).mp h with hfl | hl
  · exact absurd ((flush1_10 _).mp hfl) (by show ¬ (t.val - 1) % 196 = 195; omega)
  · exact (dat V c).toRRel_leaves (w := 10) rfl hl

def bodyPre (c : Dev nD) (t : Fin cfg1.N) (P9 : Fin cfg1.N → Vec F S3840x256 .f32 → Prop) (P10 : Fin cfg1.N → Vec F S3840x128 .f32 → Prop) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ Y, ⌜((dat V c).toRRel fgt (Rl P9 P10)).Finds 9 t Y⌝ ∗ owns (c : Thread nD τ) (st1_9 t) fullShare Y)
    ∗ (∃ Y, ⌜((dat V c).toRRel fgt (Rl P9 P10)).Finds 10 t Y⌝ ∗ owns (c : Thread nD τ) (st1_10 t) fullShare Y))

def bodyPost (c : Dev nD) (t : Fin cfg1.N) (P9 : Fin cfg1.N → Vec F S3840x256 .f32 → Prop) (P10 : Fin cfg1.N → Vec F S3840x128 .f32 → Prop) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (∃ d, owns (c : Thread nD τ) (st1_5 t) fullShare ((cfg1.win 5).fill (cfg1.grid.coords t) d ((cfg1.win 5).cut (cfg1.grid.coords t) ((dat V c).after 5 t))))
    ∗ (∃ d, owns (c : Thread nD τ) (st1_6 t) fullShare ((cfg1.win 6).fill (cfg1.grid.coords t) d ((cfg1.win 6).cut (cfg1.grid.coords t) ((dat V c).after 6 t))))
    ∗ (∃ d, owns (c : Thread nD τ) (st1_7 t) fullShare ((cfg1.win 7).fill (cfg1.grid.coords t) d ((cfg1.win 7).cut (cfg1.grid.coords t) ((dat V c).after 7 t))))
    ∗ (∃ d, owns (c : Thread nD τ) (st1_8 t) fullShare ((cfg1.win 8).fill (cfg1.grid.coords t) d ((cfg1.win 8).cut (cfg1.grid.coords t) ((dat V c).after 8 t))))
    ∗ (∃ X, ⌜P9 t X⌝ ∗ owns (c : Thread nD τ) (st1_9 t) fullShare X)
    ∗ (∃ X, ⌜P10 t X⌝ ∗ owns (c : Thread nD τ) (st1_10 t) fullShare X))

set_option maxHeartbeats 2000000 in
/-- The body at any point. -/
theorem sound_body (hM : Meets V P9 P10) (c : Dev nD) (t : Fin cfg1.N) :
    bodyPre V c t (P9 c) (P10 c) ⊢ wp frame (wpE (defs₀ (F := F)) Variants.none c none) Set.univ (bodyAt1 t) (fun _ => bodyPost V c t (P9 c) (P10 c)) := by
  unfold bodyPre bodyPost bodyAt1
  simp only [before1_0, before1_1, before1_2, before1_3, before1_4, before1_5, before1_6, before1_7, before1_8, after1_0, after1_1, after1_2, after1_3, after1_4, after1_5, after1_6, after1_7, after1_8]
  rw [show (dat V c).Φ t.succ = (dat V c).Φ t.castSucc from rfl,
    show (dat V c).owesAt () t.succ = (dat V c).owesAt () t.castSucc from rfl,
    show (dat V c).Φ t.castSucc = iprop(Pipeline.scopedRest (Ix := Unit) (Name := ℕ) (U := UR sig nD τ) (Lvl := ℕ) (Val := Elt F) spec1 c ∗ ∃ r, prngReg c r) from rfl,
    scopedRest1_eq]
  iintro ⟨⟨⟨S0, S1, S2, S3, S4, S5, S6, S7, S8, ⟨%s11, S11⟩, ⟨%s12, S12⟩⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, -, H9⟩, ⟨%Y, %hY, H10⟩⟩
  iapply (sound_score c Set.univ (grid1.coords t) _ _ _ _ _ _ _ _ _ _ _ _ _ _ _ _ _ _ _ _ _ _ _ _ _ _ (blk0 V c t) (blk1 V c t) (blk2 V c t) (blk3 V c t) (blk4 V c t) (blk5 V c t d5) (blk6 V c t d6) (blk7 V c t d7) (blk8 V c t d8) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [S11]; · iexists s11; rw [owns_whole]; iexact S11
  isplitl [S12]; · iexists s12; rw [owns_whole]; iexact S12
  iintro ⟨H0, H1, H2, H3, H4, H5, H6, H7, H8, H9, H10, ⟨%u11, S11⟩, ⟨%u12, S12⟩⟩
  isplitl [S0 S1 S2 S3 S4 S5 S6 S7 S8 S11 S12 HΦ]
  · isplitr [HΦ]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8
      isplitl [S11]; · iexists u11; iapply (Entails.of_eq (owns_whole (c : Thread nD τ) cc1_scratch0 fullShare u11)); iexact S11
      iexists u12; iapply (Entails.of_eq (owns_whole (c : Thread nD τ) cc1_scratch1 fullShare u12)); iexact S12
    · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists d5; iapply (Entails.of_eq (congrArg (owns (c : Thread nD τ) (st1_5 t) fullShare) (after1_5 V c t d5).symm)); iexact H5
  isplitl [H6]
  · iexists d6; iapply (Entails.of_eq (congrArg (owns (c : Thread nD τ) (st1_6 t) fullShare) (after1_6 V c t d6).symm)); iexact H6
  isplitl [H7]
  · iexists d7; iapply (Entails.of_eq (congrArg (owns (c : Thread nD τ) (st1_7 t) fullShare) (after1_7 V c t d7).symm)); iexact H7
  isplitl [H8]
  · iexists d8; iapply (Entails.of_eq (congrArg (owns (c : Thread nD τ) (st1_8 t) fullShare) (after1_8 V c t d8).symm)); iexact H8
  isplitl [H9]
  · iexists _; isplitr
    swap; · iexact H9
    ipureintro; exact hM.1 c t d5 d6 d7
  iexists _; isplitr
  swap; · iexact H10
  ipureintro; exact hM.2 c t d5 d6 d7 d8 Y (finds10 V c t Y hY)

theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (hM : Meets V P9 P10) (c : Dev nD) :
    BodyObligationRel (dat (F := F) V c) (defs₀ (F := F)) Variants.none () Set.univ fgt (Rl (P9 c) (P10 c)) := fun t => by
  rw [bigSep_W1, bigSep_W1, defs₀_row]
  exact triple_restated (sound_body V hM c t) rfl .rfl fun _ => .rfl

end Cert.Kernel.Score

end
-- ==== Proof.Kernel.Run.lean ====
/-
  The whole program's run: host operations, the first call, host operations, the second call, host operations. The
  second call's results are held to the predicates `P9` and `P10` block by block; what @main ends with is read off the
  contents `A` that the second call's write-backs may have left.
-/
module

public import proofs.«01_k».proof.Proof.RegionRel
public import proofs.«01_k».proof.Proof.Kernel.Prep
public import proofs.«01_k».proof.Proof.Kernel.Obl
public import proofs.«01_k».proof.Proof.Gen.Kernel.Regions
public import Idealize.ShloMosaic.Lib.Pipeline.RegionsOwned

@[expose] public section

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The contents the first call finds. -/
abbrev U1 : (c : Dev nD) → (b : Ref sig .tc) → Buf (Elt F) ((c : Thread nD τ).loc b) := fun c b => V1 m c b
/-- What the first call leaves in its three result arrays. -/
def xwArr (c : Dev nD) : Buf (Elt F) ((c : Thread nD τ).loc main_v2_0) := (Prep.dat (U1 m) c).arrAt 2 cfg0.N
def sqArr (c : Dev nD) : Buf (Elt F) ((c : Thread nD τ).loc main_v2_1) := (Prep.dat (U1 m) c).arrAt 3 cfg0.N
def qmuArr (c : Dev nD) : Buf (Elt F) ((c : Thread nD τ).loc main_v2_2) := (Prep.dat (U1 m) c).arrAt 4 cfg0.N
/-- The same, as the unknowns the contents after the first call are written over. -/
def outs : Outs (F := F) := fun _ =>
  Function.update (Function.update (Function.update (fun r c => V1 m c r) main_v2_0 (xwArr m)) main_v2_1 (sqArr m)) main_v2_2 (qmuArr m)

theorem outs_0 (c : Dev nD) : outs m 2 main_v2_0 c = xwArr m c := by
  unfold outs
  rw [Function.update_of_ne (by decide), Function.update_of_ne (by decide), Function.update_self]
theorem outs_1 (c : Dev nD) : outs m 2 main_v2_1 c = sqArr m c := by
  unfold outs
  rw [Function.update_of_ne (by decide), Function.update_self]
theorem outs_2 (c : Dev nD) : outs m 2 main_v2_2 c = qmuArr m c := by
  unfold outs
  rw [Function.update_self]

/-- The contents the second call finds. -/
abbrev U5 : (c : Dev nD) → (b : Ref sig .tc) → Buf (Elt F) ((c : Thread nD τ).loc b) := fun c b => V5 m (outs m) c b

variable (P9 : Dev nD → Fin cfg1.N → Vec F S3840x256 .f32 → Prop) (P10 : Dev nD → Fin cfg1.N → Vec F S3840x128 .f32 → Prop)

/-- The two calls' proof data. -/
def pdats : (p : Fin 2) → (c : Dev nD) → Dat τ (Elt F) Unit ℕ (UR sig nD τ) ℕ (Pipeline.pin (pcfgs (F := F)) adm p) c
  | ⟨0, _⟩ => fun c => Prep.dat (U1 m) c
  | ⟨1, _⟩ => fun c => Score.dat (U5 m) c
/-- Which windows are held to a predicate, and the predicates. -/
def fg : (p : Fin 2) → Fin (Pipeline.pin (pcfgs (F := F)) adm p).W → Bool
  | ⟨0, _⟩ => fun _ => false
  | ⟨1, _⟩ => Score.fgt
def Rl : (p : Fin 2) → (c : Dev nD) → (w : Fin (Pipeline.pin (pcfgs (F := F)) adm p).W) → Fin (Pipeline.pin (pcfgs (F := F)) adm p).N →
    (((Pipeline.pin (pcfgs (F := F)) adm p).win w).block.Idx → Elt F ((Pipeline.pin (pcfgs (F := F)) adm p).win w).elt) → Prop
  | ⟨0, _⟩ => fun _ _ _ _ => True
  | ⟨1, _⟩ => fun c => Score.Rl (P9 c) (P10 c)

/-- The contents of the arrays that a call may have left. -/
abbrev LeftAt (p : Fin 2) (c : Dev nD) : Type := Left (pcfgs (F := F)) adm (pdats m) fg (Rl P9 P10) p c

/-- What the second call leaves in its two result arrays. -/
def primOf {c : Dev nD} (A : LeftAt m P9 P10 1 c) : Buf (Elt F) ((c : Thread nD τ).loc main_v9_0) := A.1 9
def refOf {c : Dev nD} (A : LeftAt m P9 P10 1 c) : Buf (Elt F) ((c : Thread nD τ).loc main_v9_1) := A.1 10
/-- The buffers after the second call, and after the last host operations. -/
def W6 (c : Dev nD) (A : LeftAt m P9 P10 1 c) : Valuation τ sig (Elt F) :=
  Function.update (Function.update (V5 m (outs m) c) main_v9_0 (primOf m P9 P10 A)) main_v9_1 (refOf m P9 P10 A)
def W7 (c : Dev nD) (A : LeftAt m P9 P10 1 c) : Valuation τ sig (Elt F) := StableHlo.after hostOps2 (W6 m P9 P10 c A)

theorem W6_of (c : Dev nD) (A) (r : Ref sig .tc) (h0 : r ≠ main_v9_0) (h1 : r ≠ main_v9_1) : W6 m P9 P10 c A r = V5 m (outs m) c r := by
  unfold W6
  rw [Function.update_of_ne (StableHlo.devRef_ne_of_ne h1), Function.update_of_ne (StableHlo.devRef_ne_of_ne h0)]
theorem W6_prim (c : Dev nD) (A) : W6 m P9 P10 c A main_v9_0 = primOf m P9 P10 A := by
  unfold W6
  rw [Function.update_of_ne (StableHlo.devRef_ne_of_ne (by decide)), Function.update_self]
theorem W6_ref (c : Dev nD) (A) : W6 m P9 P10 c A main_v9_1 = refOf m P9 P10 A := by
  unfold W6
  rw [Function.update_self]

/-- A buffer nothing writes ends as launched. -/
theorem W7_of (c : Dev nD) (A) (r : Ref sig .tc)
    (h : r ∉ hostOps0_W ∧ r ∉ ([main_v2_0, main_v2_1, main_v2_2] : List (Ref sig .tc)) ∧ r ∉ hostOps1_W ∧ r ∉ hostOps1_1_W ∧ r ∉ hostOps1_2_W ∧ r ≠ main_v9_0 ∧ r ≠ main_v9_1 ∧ r ∉ hostOps2_W) :
    W7 m P9 P10 c A r = m ((c : Thread nD τ).loc r) :=
  (StableHlo.after_of_writes_sub hostOps2 _ hostOps2_writes h.2.2.2.2.2.2.2).trans <|
    (W6_of m P9 P10 c A r h.2.2.2.2.2.1 h.2.2.2.2.2.2.1).trans <| (V5_of m _ c r h.2.2.2.2.1).trans <| (V4_of m _ c r h.2.2.2.1).trans <|
    (V3_of m _ c r h.2.2.1).trans <| (V2_of m _ c r h.2.1).trans <| (V1_of m c r h.1).trans rfl

/-! ## The calls' records -/

abbrev Lev : GSem nD τ sig → Finset Unit := fun _ => ∅
abbrev lev : GSem nD τ sig → Unit → ℕ := fun _ _ => 0

theorem pre0 (c : Dev nD) : iprop(Pipeline.scopedRest spec0 c ∗ (∃ r, prngReg c r)) ⊢ (Pipeline.ΦA spec0 c : sProp 𝕄) := .rfl
theorem pre1 (c : Dev nD) : iprop(Pipeline.scopedRest spec1 c ∗ (∃ r, prngReg c r)) ⊢ (Pipeline.ΦA spec1 c : sProp 𝕄) := .rfl

theorem body0 (c : Dev nD) : (relFam (pcfgs (F := F)) adm (pdats m) fg (Rl P9 P10) 0 c).BodyObligation (defs₀ (F := F)) Variants.none () Set.univ :=
  (Prep.body_obligation (U1 m) c).toR

theorem body1 (hM : Score.Meets (U5 m) P9 P10) (c : Dev nD) :
    (relFam (pcfgs (F := F)) adm (pdats m) fg (Rl P9 P10) 1 c).BodyObligation (defs₀ (F := F)) Variants.none () Set.univ :=
  (Score.body_obligation (U5 m) hM c).toRRel

/-- The first call's arrays are left at the contents the proof data names. -/
theorem left0 (c : Dev nD) (A : LeftAt m P9 P10 0 c) (w : Fin cfg0.W) : A.1 w = (Prep.dat (U1 m) c).arrAt w cfg0.N :=
  ((Prep.dat (U1 m) c).toR_arrAt_iff w _ _).mp (A.2 w)

/-- The second call's read arrays are left as they were found. -/
theorem left1 (c : Dev nD) (A : LeftAt m P9 P10 1 c) (w : Fin cfg1.W) (hf : Score.fgt w = false) : A.1 w = (Score.dat (U5 m) c).arrAt w cfg1.N :=
  (((Score.dat (U5 m) c).toR.override_arrAt (by
    show (match Score.fgt w with | true => some _ | false => none) = none
    rw [hf]) _ _).trans ((Score.dat (U5 m) c).toR_arrAt_iff w _ _)).mp (A.2 w)

theorem mem0 (w : Fin cfg0.W) : (Proc.devRef .tc (Pipeline.arrRef spec0 w) : DevRef τ sig) ∈ Pipeline.arrRefs spec0 :=
  Finset.mem_map.mpr ⟨Pipeline.arrRef spec0 w, Finset.mem_image.mpr ⟨w, Finset.mem_univ _, rfl⟩, rfl⟩
theorem mem1 (w : Fin cfg1.W) : (Proc.devRef .tc (Pipeline.arrRef spec1 w) : DevRef τ sig) ∈ Pipeline.arrRefs spec1 :=
  Finset.mem_map.mpr ⟨Pipeline.arrRef spec1 w, Finset.mem_image.mpr ⟨w, Finset.mem_univ _, rfl⟩, rfl⟩

theorem ne0 {d : DevRef τ sig} (hd : d ∈ Pipeline.ucRefs τ sig \ Pipeline.arrRefs spec0) (w : Fin cfg0.W) : d ≠ Proc.devRef .tc (Pipeline.arrRef spec0 w) :=
  fun e => (Finset.mem_sdiff.mp hd).2 (e ▸ mem0 w)
theorem ne1 {d : DevRef τ sig} (hd : d ∈ Pipeline.ucRefs τ sig \ Pipeline.arrRefs spec1) (w : Fin cfg1.W) : d ≠ Proc.devRef .tc (Pipeline.arrRef spec1 w) :=
  fun e => (Finset.mem_sdiff.mp hd).2 (e ▸ mem1 w)

theorem V2_rest (c : Dev nD) (d : DevRef τ sig) (hd : d ∈ Pipeline.ucRefs τ sig \ Pipeline.arrRefs spec0) : V2 m (outs m) c d = V1 m c d := by
  unfold V2
  rw [Function.update_of_ne (ne0 hd 4), Function.update_of_ne (ne0 hd 3), Function.update_of_ne (ne0 hd 2)]
theorem W6_rest (c : Dev nD) (A) (d : DevRef τ sig) (hd : d ∈ Pipeline.ucRefs τ sig \ Pipeline.arrRefs spec1) : W6 m P9 P10 c A d = V5 m (outs m) c d := by
  unfold W6
  rw [Function.update_of_ne (ne1 hd 10), Function.update_of_ne (ne1 hd 9)]

theorem V2_xw (c : Dev nD) : V2 m (outs m) c main_v2_0 = xwArr m c := by
  unfold V2
  rw [Function.update_of_ne (StableHlo.devRef_ne_of_ne (by decide)), Function.update_of_ne (StableHlo.devRef_ne_of_ne (by decide)), Function.update_self, outs_0]
theorem V2_sq (c : Dev nD) : V2 m (outs m) c main_v2_1 = sqArr m c := by
  unfold V2
  rw [Function.update_of_ne (StableHlo.devRef_ne_of_ne (by decide)), Function.update_self, outs_1]
theorem V2_qmu (c : Dev nD) : V2 m (outs m) c main_v2_2 = qmuArr m c := by
  unfold V2
  rw [Function.update_self, outs_2]

theorem arr0 (c : Dev nD) (A : LeftAt m P9 P10 0 c) (w : Fin cfg0.W) : A.1 w = V2 m (outs m) c (Proc.devRef .tc (Pipeline.arrRef spec0 w)) := by
  refine (left0 m P9 P10 c A w).trans ?_
  match w with
  | ⟨0, _⟩ => exact ((Prep.dat (U1 m) c).arrAt_in 0 rfl _).trans (V2_of m (outs m) c main_v0 (by decide)).symm
  | ⟨1, _⟩ => exact ((Prep.dat (U1 m) c).arrAt_in 1 rfl _).trans (V2_of m (outs m) c main_v1 (by decide)).symm
  | ⟨2, _⟩ => exact (V2_xw m c).symm
  | ⟨3, _⟩ => exact (V2_sq m c).symm
  | ⟨4, _⟩ => exact (V2_qmu m c).symm

theorem arr1_in (c : Dev nD) (A : LeftAt m P9 P10 1 c) (w : Fin cfg1.W) (hf : Score.fgt w = false) (hin : (cfg1.win w).isOut = false)
    (h0 : Pipeline.arrRef spec1 w ≠ main_v9_0) (h1 : Pipeline.arrRef spec1 w ≠ main_v9_1) :
    A.1 w = W6 m P9 P10 c A (Proc.devRef .tc (Pipeline.arrRef spec1 w)) :=
  ((left1 m P9 P10 c A w hf).trans ((Score.dat (U5 m) c).arrAt_in w hin _)).trans (W6_of m P9 P10 c A _ h0 h1).symm

theorem arr1 (c : Dev nD) (A : LeftAt m P9 P10 1 c) (w : Fin cfg1.W) : A.1 w = W6 m P9 P10 c A (Proc.devRef .tc (Pipeline.arrRef spec1 w)) := by
  match w with
  | ⟨0, _⟩ => exact arr1_in m P9 P10 c A 0 rfl rfl (by decide) (by decide)
  | ⟨1, _⟩ => exact arr1_in m P9 P10 c A 1 rfl rfl (by decide) (by decide)
  | ⟨2, _⟩ => exact arr1_in m P9 P10 c A 2 rfl rfl (by decide) (by decide)
  | ⟨3, _⟩ => exact arr1_in m P9 P10 c A 3 rfl rfl (by decide) (by decide)
  | ⟨4, _⟩ => exact arr1_in m P9 P10 c A 4 rfl rfl (by decide) (by decide)
  | ⟨5, _⟩ => exact arr1_in m P9 P10 c A 5 rfl rfl (by decide) (by decide)
  | ⟨6, _⟩ => exact arr1_in m P9 P10 c A 6 rfl rfl (by decide) (by decide)
  | ⟨7, _⟩ => exact arr1_in m P9 P10 c A 7 rfl rfl (by decide) (by decide)
  | ⟨8, _⟩ => exact arr1_in m P9 P10 c A 8 rfl rfl (by decide) (by decide)
  | ⟨9, _⟩ => exact (W6_prim m P9 P10 c A).symm
  | ⟨10, _⟩ => exact (W6_ref m P9 P10 c A).symm

theorem share0 (c : Dev nD) (w : Fin cfg0.W) : (Prep.dat (U1 m) c).share w = fullShare := by
  unfold Dat.share; split <;> rfl
theorem share1 (c : Dev nD) (w : Fin cfg1.W) : (Score.dat (U5 m) c).share w = fullShare := by
  unfold Dat.share; split <;> rfl

theorem uns0 : ∀ w : Fin cfg0.W, (Pipeline.arrRef spec0 w).isScoped = false := by decide
theorem uns1 : ∀ w : Fin cfg1.W, (Pipeline.arrRef spec1 w).isScoped = false := by decide

def reg0 : RDat.RegionSeg (pcfgs (F := F)) adm (relFam (pcfgs (F := F)) adm (pdats m) fg (Rl P9 P10)) () defs₀ Variants.none Lev lev 0 :=
  regOf _ adm (pdats m) fg (Rl P9 P10) () defs₀ Variants.none Lev lev 0 launch0.toP rfl (body0 m P9 P10) (fun _ _ => rfl) (fun _ => rfl)
    (share0 m) uns0 (V1 m) (fun c _ => V2 m (outs m) c) (fun c A w => arr0 m P9 P10 c A w) (fun c _ d hd => V2_rest m c d hd)
    (fun c => pre0 c) (fun c => .rfl) (fun _ _ => rfl)

def reg1 (hM : Score.Meets (U5 m) P9 P10) :
    RDat.RegionSeg (pcfgs (F := F)) adm (relFam (pcfgs (F := F)) adm (pdats m) fg (Rl P9 P10)) () defs₀ Variants.none Lev lev 1 :=
  regOf _ adm (pdats m) fg (Rl P9 P10) () defs₀ Variants.none Lev lev 1 launch1.toP rfl (body1 m P9 P10 hM) (fun _ _ => rfl) (fun _ => rfl)
    (share1 m) uns1 (V5 m (outs m)) (fun c A => W6 m P9 P10 c A) (fun c A w => arr1 m P9 P10 c A w) (fun c A d hd => W6_rest m P9 P10 c A d hd)
    (fun c => pre1 c) (fun c => .rfl) (fun _ _ => rfl)

/-! ## @main -/

/-- The last host operations, from the contents the second call may have left. -/
def seg6A : HostSeg (Ix := Unit) (Name := ℕ) (U := UR sig nD τ) (Lvl := ℕ) (pcfgs (F := F)) defs₀ Variants.none Lev lev :=
  Pipeline.HostSeg.ofOpsEx (pcs := pcfgs (F := F)) (defs₀ := defs₀) (𝒱₀ := Variants.none) (L := Lev) (lv := lev)
    (Pipeline.ucRefs τ sig) hostOps2
    (fun op h => Pipeline.sub_ucRefs op ((List.forall_iff_forall_mem.mp hostOps2_sub) op h))
    (fun op h => (List.forall_iff_forall_mem.mp hostOps2_fresh) op h) (fun c A => W6 m P9 P10 c A) (fun c => Rest c)

/-- @main's items. -/
def segsA (hM : Score.Meets (U5 m) P9 P10) :
    List (RDat.Seg (pcfgs (F := F)) adm (relFam (pcfgs (F := F)) adm (pdats m) fg (Rl P9 P10)) () defs₀ Variants.none Lev lev) :=
  [.host (seg0 m Variants.none Lev lev (fun _ c => Rest c)), .region (reg0 m P9 P10),
    .host (seg2 m (outs m) Variants.none Lev lev (fun _ c => Rest c)), .host (seg3 m (outs m) Variants.none Lev lev (fun _ c => Rest c)),
    .host (seg4 m (outs m) Variants.none Lev lev (fun _ c => Rest c)), .region (reg1 m P9 P10 hM), .host (seg6A m P9 P10)]

set_option backward.isDefEq.respectTransparency.types false in
/-- The run of @main: it ends, every semaphore at zero, the buffers at `W7` for some contents `A` that the second call may have left. -/
theorem run (hM : Score.Meets (U5 m) P9 P10) (ρ : Dev nD → PrngReg) :
    θ_run defs (onTc (τ := τ) (main (F := F))) ⟨m, fun _ => 0, ρ⟩ (fun r => (∀ c : Dev nD, ∃ A : LeftAt m P9 P10 1 c,
      ∀ b ∈ Pipeline.ucRefs τ sig, r.2.mem (((c : Thread nD τ).1, b)) = W7 m P9 P10 c A b) ∧ r.2.sem = fun _ => 0) := by
  refine Pipeline.RDat.θ_run_regions_kit_dev_sems (pcfgs (F := F)) adm (relFam (pcfgs (F := F)) adm (pdats m) fg (Rl P9 P10)) () cellOf_inj emb₁
    defs₀ Variants.none Lev lev m ρ main (fun _ => segsA m P9 P10 hM)
    (fun c Q => by
      rewrite [main_chain c, RDat.Seg.run_eq_chain,
        show (segsA m P9 P10 hM).map RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segsA, RDat.Seg.pipes_host, RDat.Seg.pipes_region, RDat.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(∃ A : LeftAt m P9 P10 1 c, StableHlo.held (c : Thread nD τ) (Pipeline.ucRefs τ sig) (W7 m P9 P10 c A)))
    (hch := fun c => ⟨.rfl, .rfl, ?_, .rfl, .rfl, .rfl, .rfl, ?_⟩)
    (hinit := by
      refine Pipeline.initEach Lev lev fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ A : LeftAt m P9 P10 1 c, ∀ b ∈ Pipeline.ucRefs τ sig, s.mem (((c : Thread nD τ).1, b)) = W7 m P9 P10 c A b)
    (hfin := fun c s' => ?_) (hQ := fun _ h hz => ⟨h, funext fun g => hz g (.inr (regions_no_unscoped g.2))⟩)
  · -- the first call's results are the ones its proof data names
    show iprop((∃ A : LeftAt m P9 P10 0 c, StableHlo.held (c : Thread nD τ) (Pipeline.ucRefs τ sig) (V2 m (outs m) c)) ∗ Rest c)
      ⊢ (iprop(StableHlo.held (c : Thread nD τ) (Pipeline.ucRefs τ sig) (V2 m (outs m) c) ∗ Rest c) : sProp 𝕄)
    iintro ⟨⟨%A, H⟩, HR⟩
    isplitl [H]; · iexact H
    iexact HR
  · -- the end: the random-number register is dropped
    show iprop((∃ A : LeftAt m P9 P10 1 c, StableHlo.held (c : Thread nD τ) (Pipeline.ucRefs τ sig) (W7 m P9 P10 c A)) ∗ Rest c)
      ⊢ (iprop((∃ A : LeftAt m P9 P10 1 c, StableHlo.held (c : Thread nD τ) (Pipeline.ucRefs τ sig) (W7 m P9 P10 c A))
        ∗ ∃ W, owes (c : Thread nD τ) (0 : CellTallies nD τ sig Unit) W) : sProp 𝕄)
    iintro ⟨⟨%A, H⟩, -, HO⟩
    isplitl [H]; · iexists A; iexact H
    iexact HO
  · iintro ⟨⟨%A, Hh⟩, HSI⟩
    ihave Hr := (pointsTo_read_all (Pipeline.ucRefs τ sig) (fun b => ((c : Thread nD τ).1, b)) (W7 m P9 P10 c A) s') $$ [Hh HSI]
    · unfold StableHlo.held
      isplitl [Hh] <;> iassumption
    icases Hr with ⟨%h, HSI⟩
    imodintro
    isplitr
    · ipureintro
      exact ⟨A, h⟩
    · iexact HSI

/-- A buffer of @main is among those the run speaks of. -/
theorem mem_uc (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs b, by rw [h]; decide⟩

/-- The frame: @main ends, its arguments as launched, every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run m (fun _ _ _ => True) (fun _ _ _ => True) ⟨fun _ _ _ _ _ => trivial, fun _ _ _ _ _ _ _ _ => trivial⟩ ρ)
  obtain ⟨A, hA⟩ := h.1 c
  exact ⟨(hA _ (mem_uc main_arg0 rfl)).trans (W7_of m _ _ c A main_arg0 (by decide)),
    (hA _ (mem_uc main_arg1 rfl)).trans (W7_of m _ _ c A main_arg1 (by decide)),
    (hA _ (mem_uc main_arg2 rfl)).trans (W7_of m _ _ c A main_arg2 (by decide)),
    (hA _ (mem_uc main_arg3 rfl)).trans (W7_of m _ _ c A main_arg3 (by decide)),
    (hA _ (mem_uc main_arg4 rfl)).trans (W7_of m _ _ c A main_arg4 (by decide)),
    (hA _ (mem_uc main_arg5 rfl)).trans (W7_of m _ _ c A main_arg5 (by decide)),
    (hA _ (mem_uc main_arg6 rfl)).trans (W7_of m _ _ c A main_arg6 (by decide))⟩

end Cert.Kernel.Run

end
-- ==== Proof.KernelIdeal.Prep.lean ====
/-
  The first call, `cc0_prep`: what one grid point (640 rows of the queries) leaves in its three result blocks — the
  permuted rows, the row sums, the rows' products with the mean — and the pipeline's proof data and body obligation,
  over whatever contents `V` the buffers have when the call is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves -/

abbrev r0_0 : Rect S640x1536 := Rect.unit (s := S640x1536) ![0, 0] S640x1536.size inb_S640x1536_S640x1536_0_0
abbrev r0_1 : Rect S640x1536 := Rect.unit (s := S640x1536) ![0, 0] S640x256.size inb_S640x1536_S640x256_0_0
abbrev r0_2 : Rect S640x1536 := Rect.unit (s := S640x1536) ![0, 256] S640x256.size inb_S640x1536_S640x256_0_256
abbrev r0_3 : Rect S640x1536 := Rect.unit (s := S640x1536) ![0, 512] S640x256.size inb_S640x1536_S640x256_0_512
abbrev r0_4 : Rect S640x1536 := Rect.unit (s := S640x1536) ![0, 768] S640x256.size inb_S640x1536_S640x256_0_768
abbrev r0_5 : Rect S640x1536 := Rect.unit (s := S640x1536) ![0, 1024] S640x256.size inb_S640x1536_S640x256_0_1024
abbrev r0_6 : Rect S640x1536 := Rect.unit (s := S640x1536) ![0, 1280] S640x256.size inb_S640x1536_S640x256_0_1280
abbrev r0_7 : Rect S1x1536 := Rect.unit (s := S1x1536) ![0, 0] S1x1536.size inb_S1x1536_S1x1536_0_0
abbrev r0_8 : Rect S640x128 := Rect.unit (s := S640x128) ![0, 0] S640x128.size inb_S640x128_S640x128_0_0

/-- The permuted rows: six groups of 256 columns, each through one product with the permutation matrix. -/
def out0_2 (x0 : Vec F S640x1536 .bf16) (x1 : Vec F S1x1536 .f32) : Vec F S640x1536 .bf16 :=
  View.canon [⟨r0_6, k0_pay2 (k0_pay6 (View.ld x0 r0_0)) (k0_pay7 (F := F))⟩,
    ⟨r0_5, k0_pay1 (k0_pay7 (F := F)) (k0_pay12 (View.ld x0 r0_0))⟩,
    ⟨r0_4, k0_pay11 (View.ld x0 r0_0)⟩,
    ⟨r0_3, k0_pay10 (View.ld x0 r0_0)⟩,
    ⟨r0_2, k0_pay9 (View.ld x0 r0_0)⟩,
    ⟨r0_1, k0_pay8 (View.ld x0 r0_0)⟩]
theorem cover0_2 (p0 : Vec F S640x256 .bf16) (p1 : Vec F S640x256 .bf16) (p2 : Vec F S640x256 .bf16) (p3 : Vec F S640x256 .bf16) (p4 : Vec F S640x256 .bf16) (p5 : Vec F S640x256 .bf16) (y : S640x1536.Idx) :
    ∃ pc ∈ ([⟨r0_6, p0⟩, ⟨r0_5, p1⟩, ⟨r0_4, p2⟩, ⟨r0_3, p3⟩, ⟨r0_2, p4⟩, ⟨r0_1, p5⟩] : List (View.Piece (Elt F) S640x1536 .bf16)), y ∈ pc.1.set :=
  View.cover_of_tiled [⟨r0_6, p0⟩, ⟨r0_5, p1⟩, ⟨r0_4, p2⟩, ⟨r0_3, p3⟩, ⟨r0_2, p4⟩, ⟨r0_1, p5⟩] S640x256.size (by rfl) y

/-- The row sums, on every lane. -/
def out0_3 (x0 : Vec F S640x1536 .bf16) (x1 : Vec F S1x1536 .f32) : Vec F S640x128 .f32 :=
  View.canon [⟨r0_8, k0_pay4 (k0_pay6 (View.ld x0 r0_0))⟩]
theorem cover0_3 (p0 : Vec F S640x128 .f32) (y : S640x128.Idx) :
    ∃ pc ∈ ([⟨r0_8, p0⟩] : List (View.Piece (Elt F) S640x128 .f32)), y ∈ pc.1.set :=
  View.cover_of_tiled [⟨r0_8, p0⟩] S640x128.size (by rfl) y

/-- The rows' products with the mean, on every lane. -/
def out0_4 (x0 : Vec F S640x1536 .bf16) (x1 : Vec F S1x1536 .f32) : Vec F S640x128 .f32 :=
  View.canon [⟨r0_8, k0_pay5 (k0_pay6 (View.ld x0 r0_0)) (View.ld x1 r0_7)⟩]
theorem cover0_4 (p0 : Vec F S640x128 .f32) (y : S640x128.Idx) :
    ∃ pc ∈ ([⟨r0_8, p0⟩] : List (View.Piece (Elt F) S640x128 .f32)), y ∈ pc.1.set :=
  View.cover_of_tiled [⟨r0_8, p0⟩] S640x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S640x1536 .bf16) (harg1 : arg1.IsWhole) (arg2 : Memref sig .tc .vmem S1x1536 .f32) (harg2 : arg2.IsWhole) (arg3 : Memref sig .tc .vmem S640x1536 .bf16) (harg3 : arg3.IsWhole) (arg4 : Memref sig .tc .vmem S640x128 .f32) (harg4 : arg4.IsWhole) (arg5 : Memref sig .tc .vmem S640x128 .f32) (harg5 : arg5.IsWhole)
    (x0 : Vec F S640x1536 .bf16) (x1 : Vec F S1x1536 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_prep i arg1 harg1 arg2 harg2 arg3 harg3 arg4 harg4 arg5 harg5) K := by
  simp only [cc0_prep_eq_skeleton]; unfold cc0_prep_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the call finds them; each input's buffer at its block and each result's
at `out0_W` of the input blocks after the body; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
    | ⟨4, _⟩ => out0_4 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

/-- What the body leaves, window by window. -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]
theorem after0_4 (c : Dev nD) (t : Fin cfg0.N) : (dat V c).after 4 t = out0_4 (iblk V c 0 t) (iblk V c 1 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Prep

end
-- ==== Proof.KernelIdeal.Loop.lean ====
/-
  The scoring loop of `cc1_score`, generic in the values: what one trip (256 query rows) stores, and what the two
  result blocks read after all fifteen trips. The trip's pieces are read off the generated loop instance; the
  induction over its recursion gives each row of a result from the chunk that the row lies in.
-/
module

public import proofs.«01_k».proof.Proof.Gen.KernelIdeal.Loops
public import proofs.«01_k».proof.Proof.Gen.KernelIdeal.Points
public import Idealize.ShloMosaic.Lib.WritesUnit
public import Idealize.ShloMosaic.Lib.Pointwise.Index
public import Idealize.ShloMosaic.Lib.Pipeline.ValueKit.Basic
public import Idealize.ShloMosaic.Lib.Pipeline.ValueKit.Tiles

@[expose] public section

set_option maxRecDepth 16384

noncomputable section

namespace Cert.KernelIdeal.Score

open Cert.KernelIdeal Cert.KernelIdeal.Gen
open Idealize.ShloMosaic Idealize.ShloMosaic.TcCoe
open Idealize.SL Idealize.SL.RA Idealize.SL.BI

variable {F : FTy → Type} [FloatOps F]

/-! ## Where a trip reads and writes -/

theorem trips_eq : k1_t1_loop.trips = 15 := by decide +kernel
theorem off1_eq (k : Fin k1_t1_loop.trips) : k1_off1 k = ![256 * k.val, 0] := by
  have h : ∀ k : Fin k1_t1_loop.trips, ∀ a, k1_off1 k a = (![256 * k.val, 0] : Fin 2 → ℕ) a := by decide +kernel
  exact funext (h k)
theorem off2_eq (k : Fin k1_t1_loop.trips) : k1_off2 k = ![256 * k.val, 0] := by
  have h : ∀ k : Fin k1_t1_loop.trips, ∀ a, k1_off2 k a = (![256 * k.val, 0] : Fin 2 → ℕ) a := by decide +kernel
  exact funext (h k)
theorem off3_eq (k : Fin k1_t1_loop.trips) : k1_off3 k = ![256 * k.val, 0] := by
  have h : ∀ k : Fin k1_t1_loop.trips, ∀ a, k1_off3 k a = (![256 * k.val, 0] : Fin 2 → ℕ) a := by decide +kernel
  exact funext (h k)
theorem off4_eq (k : Fin k1_t1_loop.trips) : k1_off4 k = ![256 * k.val, 128] := by
  have h : ∀ k : Fin k1_t1_loop.trips, ∀ a, k1_off4 k a = (![256 * k.val, 128] : Fin 2 → ℕ) a := by decide +kernel
  exact funext (h k)

/-- Rows `256 k …` of an array of query vectors. -/
abbrev rX (k : Fin k1_t1_loop.trips) : Rect S3840x1536 := Rect.unit (s := S3840x1536) (k1_off1 k) S256x1536.size (k1_off1_inb k)
/-- Rows `256 k …` of an array with 128 lanes. -/
abbrev rL (k : Fin k1_t1_loop.trips) : Rect S3840x128 := Rect.unit (s := S3840x128) (k1_off2 k) S256x128.size (k1_off2_inb k)
/-- The first and the second 128 columns of a row of 256. -/
abbrev rS0 : Rect S1x256 := Rect.unit (s := S1x256) ![0, 0] S1x128.size inb_S1x256_S1x128_0_0
abbrev rS1 : Rect S1x256 := Rect.unit (s := S1x256) ![0, 128] S1x128.size inb_S1x256_S1x128_0_128

/-- The trip that row `a` belongs to, and the row's place in the chunk. -/
def tripOf (a : Fin 3840) : Fin k1_t1_loop.trips := ⟨a.val / 256, by rw [trips_eq]; omega⟩
def rowIn (a : Fin 3840) : Fin 256 := ⟨a.val % 256, Nat.mod_lt _ (by decide)⟩
/-- A column of a tile, from the column of the block of 256. -/
def colLo (b : Fin 256) (h : b.val < 128) : Fin 128 := ⟨b.val, h⟩
def colHi (b : Fin 256) (h : ¬ b.val < 128) : Fin 128 := ⟨b.val - 128, by omega⟩

/-- Chunks of 256 rows and two tiles of 128 columns, laid out as one block of 3840 rows and 256 columns. -/
def asmP (lo hi : Fin k1_t1_loop.trips → FVec F S256x128 .f32) : Vec F S3840x256 .f32 := fun y =>
  if h : (show Fin 256 from y 1).val < 128 then lo (tripOf (y 0)) (ix2 (n0 := 256) (n1 := 128) (rowIn (y 0)) (colLo (y 1) h))
  else hi (tripOf (y 0)) (ix2 (n0 := 256) (n1 := 128) (rowIn (y 0)) (colHi (y 1) h))
/-- Chunks of 256 rows laid out as one block of 3840 rows. -/
def asmR (H : Fin k1_t1_loop.trips → FVec F S256x128 .f32) : Vec F S3840x128 .f32 := fun y =>
  H (tripOf (y 0)) (ix2 (n0 := 256) (n1 := 128) (rowIn (y 0)) (y 1))

section Chunk

variable (x0 x1 : Vec F S3840x1536 .bf16) (x2 x3 : Vec F S3840x128 .f32) (x4 : Vec F S3840x128 .i32)
  (x6 x7 : Vec F S1x256 .f32) (w r : Vec F S256x1536 .bf16) (a0 : BitVec 32)

/-- The primary scores of chunk `k` against the first 128 codes of the block, -/
def pLo (k : Fin k1_t1_loop.trips) : FVec F S256x128 .f32 :=
  k1_pay11 (View.ld x1 (rX k)) w (View.ld x2 (rL k)) (View.ld x3 (rL k)) (View.ld x7 rS0) (View.ld x6 rS0)
/-- and against the second 128. -/
def pHi (k : Fin k1_t1_loop.trips) : FVec F S256x128 .f32 :=
  k1_pay14 (k1_pay2 (View.ld x1 (rX k)) w) (k1_pay4 (View.ld x2 (rL k))) (k1_pay5 (View.ld x3 (rL k))) (View.ld x7 rS1) (View.ld x6 rS1)
/-- The refined scores of chunk `k` after the first 128 codes of the block, from those before it, -/
def accLo (k : Fin k1_t1_loop.trips) (acc : Vec F S256x128 .f32) : FVec F S256x128 .f32 :=
  k1_pay12 a0 (k1_pay3 (View.ld x0 (rX k)) r) (k1_pay4 (View.ld x2 (rL k))) (k1_pay7 (View.ld x4 (rL k))) (k1_pay8 (View.ld x4 (rL k)))
    (k1_pay9 acc) (k1_pay10 (View.ld x7 rS0)) (pLo x1 x2 x3 x6 x7 w k)
/-- and after the second 128. -/
def accHi (k : Fin k1_t1_loop.trips) (acc : Vec F S256x128 .f32) : FVec F S256x128 .f32 :=
  k1_pay1 a0 (k1_pay7 (View.ld x4 (rL k))) (k1_pay8 (View.ld x4 (rL k))) (accLo x0 x1 x2 x3 x4 x6 x7 w r a0 k acc)
    (pHi x1 x2 x3 x6 x7 w k) (k1_pay15 (k1_pay3 (View.ld x0 (rX k)) r) (k1_pay4 (View.ld x2 (rL k))) (View.ld x7 rS1))

/-- The block of primary scores that the body leaves. -/
def outP : Vec F S3840x256 .f32 := asmP (pLo x1 x2 x3 x6 x7 w) (pHi x1 x2 x3 x6 x7 w)

/-- The refined scores that the body leaves, from those that it finds (`Y`). -/
def outR (Y : Vec F S3840x128 .f32) : Vec F S3840x128 .f32 :=
  asmR (fun k => accHi x0 x1 x2 x3 x4 x6 x7 w r a0 k (View.ld Y (rL k)))

end Chunk

/-! ## One trip -/

set_option maxHeartbeats 4000000 in
/-- The pieces that one trip stores, in terms of what the buffers read. -/
theorem tripL_eq (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (k : Fin k1_t1_loop.trips) (f_arg10 : BufTy.Contents (Elt F) arg10.view.ty) (f_arg11 : BufTy.Contents (Elt F) arg11.view.ty) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 k f_arg10 f_arg11 =
      ([⟨Rect.unit (s := S3840x256) (k1_off4 k) S256x128.size (k1_off4_inb k), pHi (arg2.view.read (Elt F) X_arg2) (arg3.view.read (Elt F) X_arg3) (arg4.view.read (Elt F) X_arg4) (arg7.view.read (Elt F) X_arg7) (arg8.view.read (Elt F) X_arg8) (arg12.view.read (Elt F) X_arg12) k⟩,
        ⟨Rect.unit (s := S3840x256) (k1_off3 k) S256x128.size (k1_off3_inb k), pLo (arg2.view.read (Elt F) X_arg2) (arg3.view.read (Elt F) X_arg3) (arg4.view.read (Elt F) X_arg4) (arg7.view.read (Elt F) X_arg7) (arg8.view.read (Elt F) X_arg8) (arg12.view.read (Elt F) X_arg12) k⟩],
       [⟨rL k, accHi (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 k (View.ld (arg11.view.read (Elt F) f_arg11) (rL k))⟩]) := by
  have e12 : View.ld (arg12.view.read (Elt F) X_arg12) (Rect.unit (s := S256x1536) ![0, 0] S256x1536.size inb_S256x1536_S256x1536_0_0) = (arg12.view.read (Elt F) X_arg12) := View.ld_unit_lit _ _ (by decide)
  have e13 : View.ld (arg13.view.read (Elt F) X_arg13) (Rect.unit (s := S256x1536) ![0, 0] S256x1536.size inb_S256x1536_S256x1536_0_0) = (arg13.view.read (Elt F) X_arg13) := View.ld_unit_lit _ _ (by decide)
  unfold tripL_k1_t1 trip_k1_t1 accHi accLo pHi pLo
  dsimp only
  conv_rhs => rw [← e12, ← e13]
  rfl

/-! ## The trips together -/

/-- What the block of primary scores reads after the first `n` trips. -/
theorem read_trips_prim (m : Memref sig .tc .vmem S3840x256 .f32) (G : BufTy.Contents (Elt F) m.view.ty)
    (P : ℕ → List (View.Piece (Elt F) S3840x256 .f32)) (lo hi : Fin k1_t1_loop.trips → FVec F S256x128 .f32) (h0 : P 0 = [])
    (hs : ∀ k : Fin k1_t1_loop.trips, P (k.val + 1)
      = [⟨Rect.unit (s := S3840x256) (k1_off4 k) S256x128.size (k1_off4_inb k), hi k⟩,
         ⟨Rect.unit (s := S3840x256) (k1_off3 k) S256x128.size (k1_off3_inb k), lo k⟩] ++ P k.val) :
    ∀ n, n ≤ 15 → ∀ y : S3840x256.Idx,
      m.view.read (Elt F) (m.view.writes (Elt F) G (P n)) y
        = if (show Fin 3840 from y 0).val < 256 * n then asmP lo hi y else m.view.read (Elt F) G y := by
  intro n
  induction n with
  | zero =>
    intro _ y
    rw [h0, if_neg (by omega)]
    rfl
  | succ n ih =>
    intro hn y
    have hk : n < k1_t1_loop.trips := by rw [trips_eq]; omega
    have e := hs ⟨n, hk⟩
    dsimp only at e
    rw [e, List.cons_append, List.cons_append, List.nil_append]
    by_cases hrow : 256 * n ≤ (show Fin 3840 from y 0).val ∧ (show Fin 3840 from y 0).val < 256 * (n + 1)
    · have ht : tripOf (y 0) = ⟨n, hk⟩ := Fin.ext (by
        show (show Fin 3840 from y 0).val / 256 = n
        omega)
      have hr : (rowIn (y 0)).val = (show Fin 3840 from y 0).val - 256 * n := by
        show (show Fin 3840 from y 0).val % 256 = _
        omega
      rw [if_pos hrow.2]
      unfold asmP
      by_cases hc : (show Fin 256 from y 1).val < 128
      · rw [dif_pos hc, View.read_writes_cons_unit_of_not_mem m.view G (k1_off4_inb ⟨n, hk⟩) _ _ y (off4_eq ⟨n, hk⟩) 1
            (Or.inl hc),
          View.read_writes_cons_unit_of_mem m.view G (k1_off3_inb ⟨n, hk⟩) _ _ y
            (ix2 (n0 := 256) (n1 := 128) (rowIn (y 0)) (colLo (y 1) hc)) (off3_eq ⟨n, hk⟩) (Fin.forall_fin_two.mpr ⟨?_, ?_⟩), ht]
        · show (show Fin 3840 from y 0).val = 256 * n + (rowIn (y 0)).val
          omega
        · show (show Fin 256 from y 1).val = 0 + (show Fin 256 from y 1).val
          omega
      · rw [dif_neg hc, View.read_writes_cons_unit_of_mem m.view G (k1_off4_inb ⟨n, hk⟩) _ _ y
            (ix2 (n0 := 256) (n1 := 128) (rowIn (y 0)) (colHi (y 1) hc)) (off4_eq ⟨n, hk⟩) (Fin.forall_fin_two.mpr ⟨?_, ?_⟩), ht]
        · show (show Fin 3840 from y 0).val = 256 * n + (rowIn (y 0)).val
          omega
        · show (show Fin 256 from y 1).val = 128 + ((show Fin 256 from y 1).val - 128)
          omega
    · have hmiss : (show Fin 3840 from y 0).val < 256 * n ∨ 256 * n + 256 ≤ (show Fin 3840 from y 0).val := by omega
      rw [View.read_writes_cons_unit_of_not_mem m.view G (k1_off4_inb ⟨n, hk⟩) _ _ y (off4_eq ⟨n, hk⟩) 0 hmiss,
        View.read_writes_cons_unit_of_not_mem m.view G (k1_off3_inb ⟨n, hk⟩) _ _ y (off3_eq ⟨n, hk⟩) 0 hmiss,
        ih (by omega) y]
      by_cases hlt : (show Fin 3840 from y 0).val < 256 * n
      · rw [if_pos hlt, if_pos (by omega)]
      · rw [if_neg hlt, if_neg (by omega)]

/-- What the block of refined scores reads after the first `n` trips, each of which computes from what it finds. -/
theorem read_trips_ref (m : Memref sig .tc .vmem S3840x128 .f32) (G : BufTy.Contents (Elt F) m.view.ty)
    (P : ℕ → List (View.Piece (Elt F) S3840x128 .f32))
    (H : Fin k1_t1_loop.trips → Vec F S256x128 .f32 → FVec F S256x128 .f32) (h0 : P 0 = [])
    (hs : ∀ k : Fin k1_t1_loop.trips, P (k.val + 1)
      = [⟨rL k, H k (View.ld (m.view.read (Elt F) (m.view.writes (Elt F) G (P k.val))) (rL k))⟩] ++ P k.val) :
    ∀ n, n ≤ 15 → ∀ y : S3840x128.Idx,
      m.view.read (Elt F) (m.view.writes (Elt F) G (P n)) y
        = if (show Fin 3840 from y 0).val < 256 * n then asmR (fun k => H k (View.ld (m.view.read (Elt F) G) (rL k))) y
          else m.view.read (Elt F) G y := by
  intro n
  induction n with
  | zero =>
    intro _ y
    rw [h0, if_neg (by omega)]
    rfl
  | succ n ih =>
    intro hn y
    have hk : n < k1_t1_loop.trips := by rw [trips_eq]; omega
    have e := hs ⟨n, hk⟩
    dsimp only at e
    rw [e, List.cons_append, List.nil_append]
    have hfind : (View.ld (m.view.read (Elt F) (m.view.writes (Elt F) G (P n))) (rL ⟨n, hk⟩) : Vec F S256x128 .f32)
        = View.ld (m.view.read (Elt F) G) (rL ⟨n, hk⟩) := by
      funext x
      have e1 := ih (by omega) ((rL ⟨n, hk⟩).idx x)
      refine e1.trans (if_neg ?_)
      have h2 := congrFun (off2_eq ⟨n, hk⟩) 0
      have h3 : (show Fin 3840 from (rL ⟨n, hk⟩).idx x 0).val = k1_off2 ⟨n, hk⟩ 0 + (x 0).val :=
        Rect.idx_unit_val (s := S3840x128) (k1_off2 ⟨n, hk⟩) S256x128.size (k1_off2_inb ⟨n, hk⟩) x 0
      have h4 : k1_off2 ⟨n, hk⟩ 0 = 256 * n := h2
      omega
    by_cases hrow : 256 * n ≤ (show Fin 3840 from y 0).val ∧ (show Fin 3840 from y 0).val < 256 * (n + 1)
    · have ht : tripOf (y 0) = ⟨n, hk⟩ := Fin.ext (by
        show (show Fin 3840 from y 0).val / 256 = n
        omega)
      have hr : (rowIn (y 0)).val = (show Fin 3840 from y 0).val - 256 * n := by
        show (show Fin 3840 from y 0).val % 256 = _
        omega
      rw [if_pos hrow.2]
      unfold asmR
      rw [View.read_writes_cons_unit_of_mem m.view G (k1_off2_inb ⟨n, hk⟩) _ _ y
            (ix2 (n0 := 256) (n1 := 128) (rowIn (y 0)) (y 1)) (off2_eq ⟨n, hk⟩) (Fin.forall_fin_two.mpr ⟨?_, ?_⟩), ht, hfind]
      · show (show Fin 3840 from y 0).val = 256 * n + (rowIn (y 0)).val
        omega
      · show (show Fin 128 from y 1).val = 0 + (show Fin 128 from y 1).val
        omega
    · have hmiss : (show Fin 3840 from y 0).val < 256 * n ∨ 256 * n + 256 ≤ (show Fin 3840 from y 0).val := by omega
      rw [View.read_writes_cons_unit_of_not_mem m.view G (k1_off2_inb ⟨n, hk⟩) _ _ y (off2_eq ⟨n, hk⟩) 0 hmiss,
        ih (by omega) y]
      by_cases hlt : (show Fin 3840 from y 0).val < 256 * n
      · rw [if_pos hlt, if_pos (by omega)]
      · rw [if_neg hlt, if_neg (by omega)]

/-- The two result blocks after the loop. -/
theorem read_loop_prim (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (G_arg10 : BufTy.Contents (Elt F) arg10.view.ty) (G_arg11 : BufTy.Contents (Elt F) arg11.view.ty) :
    arg10.view.read (Elt F) (arg10.view.writes (Elt F) G_arg10 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 k1_t1_loop.trips).1)
      = outP (arg2.view.read (Elt F) X_arg2) (arg3.view.read (Elt F) X_arg3) (arg4.view.read (Elt F) X_arg4) (arg7.view.read (Elt F) X_arg7) (arg8.view.read (Elt F) X_arg8) (arg12.view.read (Elt F) X_arg12) := by
  funext y
  have h := read_trips_prim arg10 G_arg10 (fun n => (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 n).1)
    (pLo (arg2.view.read (Elt F) X_arg2) (arg3.view.read (Elt F) X_arg3) (arg4.view.read (Elt F) X_arg4) (arg7.view.read (Elt F) X_arg7) (arg8.view.read (Elt F) X_arg8) (arg12.view.read (Elt F) X_arg12)) (pHi (arg2.view.read (Elt F) X_arg2) (arg3.view.read (Elt F) X_arg3) (arg4.view.read (Elt F) X_arg4) (arg7.view.read (Elt F) X_arg7) (arg8.view.read (Elt F) X_arg8) (arg12.view.read (Elt F) X_arg12)) rfl
    (fun k => by rw [pb_k1_t1_succ, tripL_eq]) 15 le_rfl y
  rw [if_pos (by have := (show Fin 3840 from y 0).isLt; omega)] at h
  rw [trips_eq]
  exact h
theorem read_loop_ref (𝒱 : Variants) (c : Dev nD) (bd : Option 𝒱.V) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole) (arg0 : BitVec 32) (c0_i32_19 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (G_arg10 : BufTy.Contents (Elt F) arg10.view.ty) (G_arg11 : BufTy.Contents (Elt F) arg11.view.ty) :
    arg11.view.read (Elt F) (arg11.view.writes (Elt F) G_arg11 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 k1_t1_loop.trips).2)
      = outR (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 (arg11.view.read (Elt F) G_arg11) := by
  funext y
  have h := read_trips_ref arg11 G_arg11 (fun n => (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 c0_i32_19 X_arg1 X_arg2 X_arg3 X_arg4 X_arg5 X_arg7 X_arg8 X_arg12 X_arg13 G_arg10 G_arg11 n).2)
    (fun k acc => accHi (arg1.view.read (Elt F) X_arg1) (arg2.view.read (Elt F) X_arg2) (arg3.view.read (Elt F) X_arg3) (arg4.view.read (Elt F) X_arg4) (arg5.view.read (Elt F) X_arg5) (arg7.view.read (Elt F) X_arg7) (arg8.view.read (Elt F) X_arg8) (arg12.view.read (Elt F) X_arg12) (arg13.view.read (Elt F) X_arg13) arg0 k acc) rfl
    (fun k => by rw [pb_k1_t1_succ, tripL_eq]) 15 le_rfl y
  rw [if_pos (by have := (show Fin 3840 from y 0).isLt; omega)] at h
  rw [trips_eq]
  exact h

end Cert.KernelIdeal.Score

end
-- ==== Proof.KernelIdeal.Body.lean ====
/-
  The second call, `cc1_score`: what one grid point leaves. The body decodes its block of primary codes into one
  scratch array (twelve stores of 128 columns) and its block of residual codes into another, clears the refined scores
  at the first point, and runs the loop of Loop.lean.
-/
module

public import proofs.«01_k».proof.Proof.KernelIdeal.Loop
public import proofs.«01_k».proof.Proof.Gen.KernelIdeal.Launch
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rC : Rect S256x768 := Rect.unit (s := S256x768) ![0, 0] S256x768.size inb_S256x768_S256x768_0_0
abbrev rR : Rect S256x1536 := Rect.unit (s := S256x1536) ![0, 0] S256x1536.size inb_S256x1536_S256x1536_0_0
abbrev rQ : Rect S3840x128 := Rect.unit (s := S3840x128) ![0, 0] S3840x128.size inb_S3840x128_S3840x128_0_0
abbrev rW0 : Rect S256x1536 := Rect.unit (s := S256x1536) ![0, 0] S256x128.size inb_S256x1536_S256x128_0_0
abbrev rW1 : Rect S256x1536 := Rect.unit (s := S256x1536) ![0, 128] S256x128.size inb_S256x1536_S256x128_0_128
abbrev rW2 : Rect S256x1536 := Rect.unit (s := S256x1536) ![0, 256] S256x128.size inb_S256x1536_S256x128_0_256
abbrev rW3 : Rect S256x1536 := Rect.unit (s := S256x1536) ![0, 384] S256x128.size inb_S256x1536_S256x128_0_384
abbrev rW4 : Rect S256x1536 := Rect.unit (s := S256x1536) ![0, 512] S256x128.size inb_S256x1536_S256x128_0_512
abbrev rW5 : Rect S256x1536 := Rect.unit (s := S256x1536) ![0, 640] S256x128.size inb_S256x1536_S256x128_0_640
abbrev rW6 : Rect S256x1536 := Rect.unit (s := S256x1536) ![0, 768] S256x128.size inb_S256x1536_S256x128_0_768
abbrev rW7 : Rect S256x1536 := Rect.unit (s := S256x1536) ![0, 896] S256x128.size inb_S256x1536_S256x128_0_896
abbrev rW8 : Rect S256x1536 := Rect.unit (s := S256x1536) ![0, 1024] S256x128.size inb_S256x1536_S256x128_0_1024
abbrev rW9 : Rect S256x1536 := Rect.unit (s := S256x1536) ![0, 1152] S256x128.size inb_S256x1536_S256x128_0_1152
abbrev rW10 : Rect S256x1536 := Rect.unit (s := S256x1536) ![0, 1280] S256x128.size inb_S256x1536_S256x128_0_1280
abbrev rW11 : Rect S256x1536 := Rect.unit (s := S256x1536) ![0, 1408] S256x128.size inb_S256x1536_S256x128_0_1408

/-- The decoded primary codes: low and high nibbles in alternating groups of 128 columns. -/
def wOf (x5 : Vec F S256x768 .i8) : Vec F S256x1536 .bf16 :=
  View.canon [⟨rW11, k1_pay32 (k1_pay19 (View.ld x5 rC))⟩,
    ⟨rW10, k1_pay31 (k1_pay18 (View.ld x5 rC))⟩,
    ⟨rW9, k1_pay30 (k1_pay19 (View.ld x5 rC))⟩,
    ⟨rW8, k1_pay29 (k1_pay18 (View.ld x5 rC))⟩,
    ⟨rW7, k1_pay28 (k1_pay19 (View.ld x5 rC))⟩,
    ⟨rW6, k1_pay27 (k1_pay18 (View.ld x5 rC))⟩,
    ⟨rW5, k1_pay26 (k1_pay25 (View.ld x5 rC))⟩,
    ⟨rW4, k1_pay24 (View.ld x5 rC)⟩,
    ⟨rW3, k1_pay23 (View.ld x5 rC)⟩,
    ⟨rW2, k1_pay22 (View.ld x5 rC)⟩,
    ⟨rW1, k1_pay21 (View.ld x5 rC)⟩,
    ⟨rW0, k1_pay20 (View.ld x5 rC)⟩]
theorem cover12 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (y : S256x1536.Idx) :
    ∃ pc ∈ ([⟨rW11, p11⟩, ⟨rW10, p10⟩, ⟨rW9, p9⟩, ⟨rW8, p8⟩, ⟨rW7, p7⟩, ⟨rW6, p6⟩, ⟨rW5, p5⟩, ⟨rW4, p4⟩, ⟨rW3, p3⟩, ⟨rW2, p2⟩, ⟨rW1, p1⟩, ⟨rW0, p0⟩] : List (View.Piece (Elt F) S256x1536 .bf16)), y ∈ pc.1.set :=
  View.cover_of_tiled [⟨rW11, p11⟩, ⟨rW10, p10⟩, ⟨rW9, p9⟩, ⟨rW8, p8⟩, ⟨rW7, p7⟩, ⟨rW6, p6⟩, ⟨rW5, p5⟩, ⟨rW4, p4⟩, ⟨rW3, p3⟩, ⟨rW2, p2⟩, ⟨rW1, p1⟩, ⟨rW0, p0⟩] S256x128.size (by rfl) y

/-- The decoded residual codes. -/
def rOf (x8 : Vec F S256x1536 .i8) : Vec F S256x1536 .bf16 := View.canon [⟨rR, k1_pay33 (View.ld x8 rR)⟩]
theorem cover13 (p : Vec F S256x1536 .bf16) (y : S256x1536.Idx) :
    ∃ pc ∈ ([⟨rR, p⟩] : List (View.Piece (Elt F) S256x1536 .bf16)), y ∈ pc.1.set :=
  View.cover_of_tiled [⟨rR, p⟩] S256x1536.size (by rfl) y
theorem cover11 (p : Vec F S3840x128 .f32) (y : S3840x128.Idx) :
    ∃ pc ∈ ([⟨rQ, p⟩] : List (View.Piece (Elt F) S3840x128 .f32)), y ∈ pc.1.set :=
  View.cover_of_tiled [⟨rQ, p⟩] S3840x128.size (by rfl) y
theorem canon11 (p : Vec F S3840x128 .f32) : View.canon [(⟨rQ, p⟩ : View.Piece (Elt F) S3840x128 .f32)] = p :=
  View.canon_unit_zero (by funext a; fin_cases a <;> rfl) _ _

/-- The test at the head of the body: is this the first grid point? -/
def isFirst (i : grid1.Coords) : Prop :=
  (Scalar.cmpi .ne (Scalar.extui (Scalar.cmpi .eq (BitVec.ofNat 32 (i 0).val) 0#32) : BitVec 32) 0#32 : BitVec 1) = 1#1
instance (i : grid1.Coords) : Decidable (isFirst i) := by unfold isFirst; infer_instance
/-- The refined scores as the loop finds them: cleared at the first point. -/
def startR (i : grid1.Coords) (Y : Vec F S3840x128 .f32) : Vec F S3840x128 .f32 := if isFirst i then k1_pay16 (F := F) else Y
theorem startR_pos (i : grid1.Coords) (Y : Vec F S3840x128 .f32) (h : isFirst i) : startR i Y = k1_pay16 (F := F) := if_pos h
theorem startR_neg (i : grid1.Coords) (Y : Vec F S3840x128 .f32) (h : ¬ isFirst i) : startR i Y = Y := if_neg h

theorem outR_congr {x0 x1 : Vec F S3840x1536 .bf16} {x2 x3 : Vec F S3840x128 .f32} {x4 : Vec F S3840x128 .i32}
    {x6 x7 : Vec F S1x256 .f32} {w w' r r' : Vec F S256x1536 .bf16} {a : BitVec 32} {Y Y' : Vec F S3840x128 .f32}
    (hw : w = w') (hr : r = r') (hY : Y = Y') :
    outR x0 x1 x2 x3 x4 x6 x7 w r a Y = outR x0 x1 x2 x3 x4 x6 x7 w' r' a Y' := by rw [hw, hr, hY]

set_option maxHeartbeats 4000000 in
/-- The body on whole staging memrefs, the inputs' at contents `xW` and the refined scores' at `Y`, runs to the
    continuation holding the inputs as they were, the primary scores of the block and the refined scores updated. -/
theorem sound_score (c : Dev nD) (E : Set ℕ) (i : grid1.Coords) (arg1 : Memref sig .tc .vmem S3840x1536 .bf16) (harg1 : arg1.IsWhole) (arg2 : Memref sig .tc .vmem S3840x1536 .bf16) (harg2 : arg2.IsWhole) (arg3 : Memref sig .tc .vmem S3840x128 .f32) (harg3 : arg3.IsWhole) (arg4 : Memref sig .tc .vmem S3840x128 .f32) (harg4 : arg4.IsWhole) (arg5 : Memref sig .tc .vmem S3840x128 .i32) (harg5 : arg5.IsWhole) (arg6 : Memref sig .tc .vmem S256x768 .i8) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1536 .i8) (harg9 : arg9.IsWhole) (arg10 : Memref sig .tc .vmem S3840x256 .f32) (harg10 : arg10.IsWhole) (arg11 : Memref sig .tc .vmem S3840x128 .f32) (harg11 : arg11.IsWhole) (arg12 : Memref sig .tc .vmem S256x1536 .bf16) (harg12 : arg12.IsWhole) (arg13 : Memref sig .tc .vmem S256x1536 .bf16) (harg13 : arg13.IsWhole)
    (x0 : Vec F S3840x1536 .bf16) (x1 : Vec F S3840x1536 .bf16) (x2 : Vec F S3840x128 .f32) (x3 : Vec F S3840x128 .f32) (x4 : Vec F S3840x128 .i32) (x5 : Vec F S256x768 .i8) (x6 : Vec F S1x256 .f32) (x7 : Vec F S1x256 .f32) (x8 : Vec F S256x1536 .i8) (Y : Vec F S3840x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare Y ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outP x1 x2 x3 x6 x7 (wOf x5)) ∗ owns (c : Thread nD τ) arg11 fullShare (outR x0 x1 x2 x3 x4 x6 x7 (wOf x5) (rOf x8) (BitVec.ofNat 32 (i 0).val) (startR i Y)) ∗ (∃ d, owns (c : Thread nD τ) arg12 fullShare d) ∗ (∃ d, owns (c : Thread nD τ) arg13 fullShare d)) -∗ K ⟨⟩))
      ⊢ wp frame (wpE (defs₀ (F := F)) Variants.none c none) E (cc1_score i arg1 harg1 arg2 harg2 arg3 harg3 arg4 harg4 arg5 harg5 arg6 harg6 arg7 harg7 arg8 harg8 arg9 harg9 arg10 harg10 arg11 harg11 arg12 harg12 arg13 harg13) K := by
  simp only [cc1_score_eq_skeleton]; unfold cc1_score_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, Hk⟩
  subst hf0 hf1 hf2 hf3 hf4 hf5 hf6 hf7 hf8 hf10
  by_cases hz : isFirst i
  · have hz' := hz
    unfold isFirst at hz'
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact (read_loop_prim _ _ _ _ _ _ _ _ _ _ _ _ _ _ _ _ _ _ _ _ _ _ _ _ _ _ _ _ _ _ _ _ _ _ _ _ _ _ _ _ _ _ _).trans
        (congrArg (outP _ _ _ _ _) (View.read_writes_eq_canon _ _ _ (cover12 (F := F) _ _ _ _ _ _ _ _ _ _ _ _)))
    isplitl [H10]
    · iexists _; isplitr
      swap; · iexact H10
      ipureintro
      rw [View.writes_append]
      refine (read_loop_ref _ _ _ _ _ _ _ _ _ _ _ _ _ _ _ _ _ _ _ _ _ _ _ _ _ _ _ _ _ _ _ _ _ _ _ _ _ _ _ _ _ _ _).trans
        (outR_congr (View.read_writes_eq_canon _ _ _ (cover12 (F := F) _ _ _ _ _ _ _ _ _ _ _ _)) (View.read_writes_eq_canon _ _ _ (cover13 (F := F) _)) ?_)
      exact (View.read_writes_eq_canon _ _ _ (cover11 (F := F) _)).trans ((canon11 _).trans (startR_pos (F := F) i _ hz).symm)
    isplitl [H11]
    · iexists _; iexists _; isplitr
      swap; · iexact H11
      ipureintro; rfl
    iexists _; iexists _; isplitr
    swap; · iexact H12
    ipureintro; rfl
  · have hz' := hz
    unfold isFirst at hz'
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact (read_loop_prim _ _ _ _ _ _ _ _ _ _ _ _ _ _ _ _ _ _ _ _ _ _ _ _ _ _ _ _ _ _ _ _ _ _ _ _ _ _ _ _ _ _ _).trans
        (congrArg (outP _ _ _ _ _) (View.read_writes_eq_canon _ _ _ (cover12 (F := F) _ _ _ _ _ _ _ _ _ _ _ _)))
    isplitl [H10]
    · iexists _; isplitr
      swap; · iexact H10
      ipureintro
      refine (read_loop_ref _ _ _ _ _ _ _ _ _ _ _ _ _ _ _ _ _ _ _ _ _ _ _ _ _ _ _ _ _ _ _ _ _ _ _ _ _ _ _ _ _ _ _).trans
        (outR_congr (View.read_writes_eq_canon _ _ _ (cover12 (F := F) _ _ _ _ _ _ _ _ _ _ _ _)) (View.read_writes_eq_canon _ _ _ (cover13 (F := F) _)) ?_)
      exact (startR_neg i _ hz).symm
    isplitl [H11]
    · iexists _; iexists _; isplitr
      swap; · iexact H11
      ipureintro; rfl
    iexists _; iexists _; isplitr
    swap; · iexact H12
    ipureintro; rfl

end Cert.KernelIdeal.Score

end
-- ==== Proof.KernelIdeal.Obl.lean ====
/-
  The second call's proof data and body obligation, over whatever contents `V` the buffers have when the call is
  entered. Four inputs come in blocks that the last grid point cuts short, so the staging buffers there hold
  whatever was in them before; what the two results hold is stated by two predicates (`P9` of the primary scores'
  block, `P10` of the refined scores') that are parameters here: the body meets them if the values of Body.lean do.
-/
module

public import proofs.«01_k».proof.Proof.KernelIdeal.Body
public import Idealize.ShloMosaic.Lib.Pipeline.DatRel

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffers: the blocks, and for the windows that may be cut short the blocks over what was there (`d`). -/
abbrev blk0 (c : Dev nD) (t : Fin cfg1.N) : Vec F S3840x1536 .bf16 := iblk V c 0 t
abbrev blk1 (c : Dev nD) (t : Fin cfg1.N) : Vec F S3840x1536 .bf16 := iblk V c 1 t
abbrev blk2 (c : Dev nD) (t : Fin cfg1.N) : Vec F S3840x128 .f32 := iblk V c 2 t
abbrev blk3 (c : Dev nD) (t : Fin cfg1.N) : Vec F S3840x128 .f32 := iblk V c 3 t
abbrev blk4 (c : Dev nD) (t : Fin cfg1.N) : Vec F S3840x128 .i32 := iblk V c 4 t
abbrev blk5 (c : Dev nD) (t : Fin cfg1.N) (d : Vec F S256x768 .i8) : Vec F S256x768 .i8 := (cfg1.win 5).fill (cfg1.grid.coords t) d (iblk V c 5 t)
abbrev blk6 (c : Dev nD) (t : Fin cfg1.N) (d : Vec F S1x256 .f32) : Vec F S1x256 .f32 := (cfg1.win 6).fill (cfg1.grid.coords t) d (iblk V c 6 t)
abbrev blk7 (c : Dev nD) (t : Fin cfg1.N) (d : Vec F S1x256 .f32) : Vec F S1x256 .f32 := (cfg1.win 7).fill (cfg1.grid.coords t) d (iblk V c 7 t)
abbrev blk8 (c : Dev nD) (t : Fin cfg1.N) (d : Vec F S256x1536 .i8) : Vec F S256x1536 .i8 := (cfg1.win 8).fill (cfg1.grid.coords t) d (iblk V c 8 t)

/-- Contents where nothing is claimed. -/
def fill5 : Vec F S256x768 .i8 := fun _ => (0#8 : BitVec 8)
def fill6 : Vec F S1x256 .f32 := constant S1x256 .f32 0x00000000#32
def fill7 : Vec F S1x256 .f32 := constant S1x256 .f32 0x00000000#32
def fill8 : Vec F S256x1536 .i8 := fun _ => (0#8 : BitVec 8)
def fill9 : Vec F S3840x256 .f32 := constant S3840x256 .f32 0x00000000#32
def fill10 : Vec F S3840x128 .f32 := constant S3840x128 .f32 0x00000000#32

/-! ## The proof data -/

/-- The proof data on core `c`: the arrays as the call finds them; the inputs' buffers at their blocks; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => blk5 V c t (fill5 (F := F))
    | ⟨6, _⟩ => blk6 V c t (fill6 (F := F))
    | ⟨7, _⟩ => blk7 V c t (fill7 (F := F))
    | ⟨8, _⟩ => blk8 V c t (fill8 (F := F))
    | ⟨9, _⟩ => fill9 (F := F)
    | ⟨10, _⟩ => fill10 (F := F)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem after1_1 (c : Dev nD) (t : Fin cfg1.N) : (dat V c).after 1 t = iblk V c 1 t := by dsimp only [dat]
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem after1_2 (c : Dev nD) (t : Fin cfg1.N) : (dat V c).after 2 t = iblk V c 2 t := by dsimp only [dat]
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem after1_3 (c : Dev nD) (t : Fin cfg1.N) : (dat V c).after 3 t = iblk V c 3 t := by dsimp only [dat]
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem after1_4 (c : Dev nD) (t : Fin cfg1.N) : (dat V c).after 4 t = iblk V c 4 t := by dsimp only [dat]
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem after1_5 (c : Dev nD) (t : Fin cfg1.N) (d) :
    (cfg1.win 5).fill (cfg1.grid.coords t) d ((cfg1.win 5).cut (cfg1.grid.coords t) ((dat V c).after 5 t)) = blk5 V c t d := by
  rw [show (dat V c).after 5 t = blk5 V c t (fill5 (F := F)) by dsimp only [dat]]
  unfold blk5
  rw [Pipeline.Window.cut_fill]
theorem before1_5 (c : Dev nD) (t : Fin cfg1.N) (d) : (dat V c).before 5 t d = blk5 V c t d := by
  unfold Dat.before
  rw [if_pos (fetch1_5 t)]
  unfold Dat.fetched Dat.blockOf blk5 iblk
  rw [A_eq]
theorem after1_6 (c : Dev nD) (t : Fin cfg1.N) (d) :
    (cfg1.win 6).fill (cfg1.grid.coords t) d ((cfg1.win 6).cut (cfg1.grid.coords t) ((dat V c).after 6 t)) = blk6 V c t d := by
  rw [show (dat V c).after 6 t = blk6 V c t (fill6 (F := F)) by dsimp only [dat]]
  unfold blk6
  rw [Pipeline.Window.cut_fill]
theorem before1_6 (c : Dev nD) (t : Fin cfg1.N) (d) : (dat V c).before 6 t d = blk6 V c t d := by
  unfold Dat.before
  rw [if_pos (fetch1_6 t)]
  unfold Dat.fetched Dat.blockOf blk6 iblk
  rw [A_eq]
theorem after1_7 (c : Dev nD) (t : Fin cfg1.N) (d) :
    (cfg1.win 7).fill (cfg1.grid.coords t) d ((cfg1.win 7).cut (cfg1.grid.coords t) ((dat V c).after 7 t)) = blk7 V c t d := by
  rw [show (dat V c).after 7 t = blk7 V c t (fill7 (F := F)) by dsimp only [dat]]
  unfold blk7
  rw [Pipeline.Window.cut_fill]
theorem before1_7 (c : Dev nD) (t : Fin cfg1.N) (d) : (dat V c).before 7 t d = blk7 V c t d := by
  unfold Dat.before
  rw [if_pos (fetch1_7 t)]
  unfold Dat.fetched Dat.blockOf blk7 iblk
  rw [A_eq]
theorem after1_8 (c : Dev nD) (t : Fin cfg1.N) (d) :
    (cfg1.win 8).fill (cfg1.grid.coords t) d ((cfg1.win 8).cut (cfg1.grid.coords t) ((dat V c).after 8 t)) = blk8 V c t d := by
  rw [show (dat V c).after 8 t = blk8 V c t (fill8 (F := F)) by dsimp only [dat]]
  unfold blk8
  rw [Pipeline.Window.cut_fill]
theorem before1_8 (c : Dev nD) (t : Fin cfg1.N) (d) : (dat V c).before 8 t d = blk8 V c t d := by
  unfold Dat.before
  rw [if_pos (fetch1_8 t)]
  unfold Dat.fetched Dat.blockOf blk8 iblk
  rw [A_eq]

/-- The windows held to a predicate: the two results. -/
def fgt : Fin cfg1.W → Bool := fun | ⟨9, _⟩ => true | ⟨10, _⟩ => true | _ => false
/-- The predicates. -/
def Rl (P9 : Fin cfg1.N → Vec F S3840x256 .f32 → Prop) (P10 : Fin cfg1.N → Vec F S3840x128 .f32 → Prop) :
    (w : Fin cfg1.W) → Fin cfg1.N → ((cfg1.win w).block.Idx → Elt F (cfg1.win w).elt) → Prop :=
  fun | ⟨9, _⟩ => P9 | ⟨10, _⟩ => P10 | _ => fun _ _ => True

variable (P9 : Dev nD → Fin cfg1.N → Vec F S3840x256 .f32 → Prop) (P10 : Dev nD → Fin cfg1.N → Vec F S3840x128 .f32 → Prop)

/-- The point before. -/
def prev (t : Fin cfg1.N) : Fin cfg1.N := ⟨t.val - 1, Nat.lt_of_le_of_lt (Nat.sub_le _ _) t.isLt⟩

/-- What is asked of the predicates: the values of the body meet them, at any fillers and from what the previous
    point's predicate says of the refined scores. -/
def Meets : Prop :=
  (∀ (c : Dev nD) (t : Fin cfg1.N) d5 d6 d7, P9 c t (outP (F := F) (blk1 V c t) (blk2 V c t) (blk3 V c t) (blk6 V c t d6) (blk7 V c t d7) (wOf (blk5 V c t d5))))
  ∧ ∀ (c : Dev nD) (t : Fin cfg1.N) d5 d6 d7 d8 Y, (t.val ≠ 0 → P10 c (prev t) Y) → P10 c t (outR (F := F) (blk0 V c t) (blk1 V c t) (blk2 V c t) (blk3 V c t) (blk4 V c t) (blk6 V c t d6) (blk7 V c t d7) (wOf (blk5 V c t d5)) (rOf (blk8 V c t d8)) (BitVec.ofNat 32 (grid1.coords t 0).val) (startR (grid1.coords t) Y))

variable {P9 P10}

/-! ## The body obligation -/

theorem finds10 (c : Dev nD) (t : Fin cfg1.N) (Y : Vec F S3840x128 .f32)
    (h : ((dat V c).toRRel fgt (Rl (P9 c) (P10 c))).Finds 10 t Y) (ht : t.val ≠ 0) : P10 c (prev t) Y := by
  have hN : t.val < 196 := t.isLt
  rcases (RDat.finds_of_pos _ (w := 10) rfl ht Y).mp h with hfl | hl
  · exact absurd ((flush1_10 _).mp hfl) (by show ¬ (t.val - 1) % 196 = 195; omega)
  · exact (dat V c).toRRel_leaves (w := 10) rfl hl

def bodyPre (c : Dev nD) (t : Fin cfg1.N) (P9 : Fin cfg1.N → Vec F S3840x256 .f32 → Prop) (P10 : Fin cfg1.N → Vec F S3840x128 .f32 → Prop) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ Y, ⌜((dat V c).toRRel fgt (Rl P9 P10)).Finds 9 t Y⌝ ∗ owns (c : Thread nD τ) (st1_9 t) fullShare Y)
    ∗ (∃ Y, ⌜((dat V c).toRRel fgt (Rl P9 P10)).Finds 10 t Y⌝ ∗ owns (c : Thread nD τ) (st1_10 t) fullShare Y))

def bodyPost (c : Dev nD) (t : Fin cfg1.N) (P9 : Fin cfg1.N → Vec F S3840x256 .f32 → Prop) (P10 : Fin cfg1.N → Vec F S3840x128 .f32 → Prop) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (∃ d, owns (c : Thread nD τ) (st1_5 t) fullShare ((cfg1.win 5).fill (cfg1.grid.coords t) d ((cfg1.win 5).cut (cfg1.grid.coords t) ((dat V c).after 5 t))))
    ∗ (∃ d, owns (c : Thread nD τ) (st1_6 t) fullShare ((cfg1.win 6).fill (cfg1.grid.coords t) d ((cfg1.win 6).cut (cfg1.grid.coords t) ((dat V c).after 6 t))))
    ∗ (∃ d, owns (c : Thread nD τ) (st1_7 t) fullShare ((cfg1.win 7).fill (cfg1.grid.coords t) d ((cfg1.win 7).cut (cfg1.grid.coords t) ((dat V c).after 7 t))))
    ∗ (∃ d, owns (c : Thread nD τ) (st1_8 t) fullShare ((cfg1.win 8).fill (cfg1.grid.coords t) d ((cfg1.win 8).cut (cfg1.grid.coords t) ((dat V c).after 8 t))))
    ∗ (∃ X, ⌜P9 t X⌝ ∗ owns (c : Thread nD τ) (st1_9 t) fullShare X)
    ∗ (∃ X, ⌜P10 t X⌝ ∗ owns (c : Thread nD τ) (st1_10 t) fullShare X))

set_option maxHeartbeats 2000000 in
/-- The body at any point. -/
theorem sound_body (hM : Meets V P9 P10) (c : Dev nD) (t : Fin cfg1.N) :
    bodyPre V c t (P9 c) (P10 c) ⊢ wp frame (wpE (defs₀ (F := F)) Variants.none c none) Set.univ (bodyAt1 t) (fun _ => bodyPost V c t (P9 c) (P10 c)) := by
  unfold bodyPre bodyPost bodyAt1
  simp only [before1_0, before1_1, before1_2, before1_3, before1_4, before1_5, before1_6, before1_7, before1_8, after1_0, after1_1, after1_2, after1_3, after1_4, after1_5, after1_6, after1_7, after1_8]
  rw [show (dat V c).Φ t.succ = (dat V c).Φ t.castSucc from rfl,
    show (dat V c).owesAt () t.succ = (dat V c).owesAt () t.castSucc from rfl,
    show (dat V c).Φ t.castSucc = iprop(Pipeline.scopedRest (Ix := Unit) (Name := ℕ) (U := UR sig nD τ) (Lvl := ℕ) (Val := Elt F) spec1 c ∗ ∃ r, prngReg c r) from rfl,
    scopedRest1_eq]
  iintro ⟨⟨⟨S0, S1, S2, S3, S4, S5, S6, S7, S8, ⟨%s11, S11⟩, ⟨%s12, S12⟩⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, -, H9⟩, ⟨%Y, %hY, H10⟩⟩
  iapply (sound_score c Set.univ (grid1.coords t) _ _ _ _ _ _ _ _ _ _ _ _ _ _ _ _ _ _ _ _ _ _ _ _ _ _ (blk0 V c t) (blk1 V c t) (blk2 V c t) (blk3 V c t) (blk4 V c t) (blk5 V c t d5) (blk6 V c t d6) (blk7 V c t d7) (blk8 V c t d8) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [S11]; · iexists s11; rw [owns_whole]; iexact S11
  isplitl [S12]; · iexists s12; rw [owns_whole]; iexact S12
  iintro ⟨H0, H1, H2, H3, H4, H5, H6, H7, H8, H9, H10, ⟨%u11, S11⟩, ⟨%u12, S12⟩⟩
  isplitl [S0 S1 S2 S3 S4 S5 S6 S7 S8 S11 S12 HΦ]
  · isplitr [HΦ]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8
      isplitl [S11]; · iexists u11; iapply (Entails.of_eq (owns_whole (c : Thread nD τ) cc1_scratch0 fullShare u11)); iexact S11
      iexists u12; iapply (Entails.of_eq (owns_whole (c : Thread nD τ) cc1_scratch1 fullShare u12)); iexact S12
    · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists d5; iapply (Entails.of_eq (congrArg (owns (c : Thread nD τ) (st1_5 t) fullShare) (after1_5 V c t d5).symm)); iexact H5
  isplitl [H6]
  · iexists d6; iapply (Entails.of_eq (congrArg (owns (c : Thread nD τ) (st1_6 t) fullShare) (after1_6 V c t d6).symm)); iexact H6
  isplitl [H7]
  · iexists d7; iapply (Entails.of_eq (congrArg (owns (c : Thread nD τ) (st1_7 t) fullShare) (after1_7 V c t d7).symm)); iexact H7
  isplitl [H8]
  · iexists d8; iapply (Entails.of_eq (congrArg (owns (c : Thread nD τ) (st1_8 t) fullShare) (after1_8 V c t d8).symm)); iexact H8
  isplitl [H9]
  · iexists _; isplitr
    swap; · iexact H9
    ipureintro; exact hM.1 c t d5 d6 d7
  iexists _; isplitr
  swap; · iexact H10
  ipureintro; exact hM.2 c t d5 d6 d7 d8 Y (finds10 V c t Y hY)

theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (hM : Meets V P9 P10) (c : Dev nD) :
    BodyObligationRel (dat (F := F) V c) (defs₀ (F := F)) Variants.none () Set.univ fgt (Rl (P9 c) (P10 c)) := fun t => by
  rw [bigSep_W1, bigSep_W1, defs₀_row]
  exact triple_restated (sound_body V hM c t) rfl .rfl fun _ => .rfl

end Cert.KernelIdeal.Score

end
-- ==== Proof.KernelIdeal.Run.lean ====
/-
  The whole program's run: host operations, the first call, host operations, the second call, host operations. The
  second call's results are held to the predicates `P9` and `P10` block by block; what @main ends with is read off the
  contents `A` that the second call's write-backs may have left.
-/
module

public import proofs.«01_k».proof.Proof.RegionRel
public import proofs.«01_k».proof.Proof.KernelIdeal.Prep
public import proofs.«01_k».proof.Proof.KernelIdeal.Obl
public import proofs.«01_k».proof.Proof.Gen.KernelIdeal.Regions
public import Idealize.ShloMosaic.Lib.Pipeline.RegionsOwned

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The contents the first call finds. -/
abbrev U1 : (c : Dev nD) → (b : Ref sig .tc) → Buf (Elt F) ((c : Thread nD τ).loc b) := fun c b => V1 m c b
/-- What the first call leaves in its three result arrays. -/
def xwArr (c : Dev nD) : Buf (Elt F) ((c : Thread nD τ).loc main_v2_0) := (Prep.dat (U1 m) c).arrAt 2 cfg0.N
def sqArr (c : Dev nD) : Buf (Elt F) ((c : Thread nD τ).loc main_v2_1) := (Prep.dat (U1 m) c).arrAt 3 cfg0.N
def qmuArr (c : Dev nD) : Buf (Elt F) ((c : Thread nD τ).loc main_v2_2) := (Prep.dat (U1 m) c).arrAt 4 cfg0.N
/-- The same, as the unknowns the contents after the first call are written over. -/
def outs : Outs (F := F) := fun _ =>
  Function.update (Function.update (Function.update (fun r c => V1 m c r) main_v2_0 (xwArr m)) main_v2_1 (sqArr m)) main_v2_2 (qmuArr m)

theorem outs_0 (c : Dev nD) : outs m 2 main_v2_0 c = xwArr m c := by
  unfold outs
  rw [Function.update_of_ne (by decide), Function.update_of_ne (by decide), Function.update_self]
theorem outs_1 (c : Dev nD) : outs m 2 main_v2_1 c = sqArr m c := by
  unfold outs
  rw [Function.update_of_ne (by decide), Function.update_self]
theorem outs_2 (c : Dev nD) : outs m 2 main_v2_2 c = qmuArr m c := by
  unfold outs
  rw [Function.update_self]

/-- The contents the second call finds. -/
abbrev U5 : (c : Dev nD) → (b : Ref sig .tc) → Buf (Elt F) ((c : Thread nD τ).loc b) := fun c b => V5 m (outs m) c b

variable (P9 : Dev nD → Fin cfg1.N → Vec F S3840x256 .f32 → Prop) (P10 : Dev nD → Fin cfg1.N → Vec F S3840x128 .f32 → Prop)

/-- The two calls' proof data. -/
def pdats : (p : Fin 2) → (c : Dev nD) → Dat τ (Elt F) Unit ℕ (UR sig nD τ) ℕ (Pipeline.pin (pcfgs (F := F)) adm p) c
  | ⟨0, _⟩ => fun c => Prep.dat (U1 m) c
  | ⟨1, _⟩ => fun c => Score.dat (U5 m) c
/-- Which windows are held to a predicate, and the predicates. -/
def fg : (p : Fin 2) → Fin (Pipeline.pin (pcfgs (F := F)) adm p).W → Bool
  | ⟨0, _⟩ => fun _ => false
  | ⟨1, _⟩ => Score.fgt
def Rl : (p : Fin 2) → (c : Dev nD) → (w : Fin (Pipeline.pin (pcfgs (F := F)) adm p).W) → Fin (Pipeline.pin (pcfgs (F := F)) adm p).N →
    (((Pipeline.pin (pcfgs (F := F)) adm p).win w).block.Idx → Elt F ((Pipeline.pin (pcfgs (F := F)) adm p).win w).elt) → Prop
  | ⟨0, _⟩ => fun _ _ _ _ => True
  | ⟨1, _⟩ => fun c => Score.Rl (P9 c) (P10 c)

/-- The contents of the arrays that a call may have left. -/
abbrev LeftAt (p : Fin 2) (c : Dev nD) : Type := Left (pcfgs (F := F)) adm (pdats m) fg (Rl P9 P10) p c

/-- What the second call leaves in its two result arrays. -/
def primOf {c : Dev nD} (A : LeftAt m P9 P10 1 c) : Buf (Elt F) ((c : Thread nD τ).loc main_v9_0) := A.1 9
def refOf {c : Dev nD} (A : LeftAt m P9 P10 1 c) : Buf (Elt F) ((c : Thread nD τ).loc main_v9_1) := A.1 10
/-- The buffers after the second call, and after the last host operations. -/
def W6 (c : Dev nD) (A : LeftAt m P9 P10 1 c) : Valuation τ sig (Elt F) :=
  Function.update (Function.update (V5 m (outs m) c) main_v9_0 (primOf m P9 P10 A)) main_v9_1 (refOf m P9 P10 A)
def W7 (c : Dev nD) (A : LeftAt m P9 P10 1 c) : Valuation τ sig (Elt F) := StableHlo.after hostOps2 (W6 m P9 P10 c A)

theorem W6_of (c : Dev nD) (A) (r : Ref sig .tc) (h0 : r ≠ main_v9_0) (h1 : r ≠ main_v9_1) : W6 m P9 P10 c A r = V5 m (outs m) c r := by
  unfold W6
  rw [Function.update_of_ne (StableHlo.devRef_ne_of_ne h1), Function.update_of_ne (StableHlo.devRef_ne_of_ne h0)]
theorem W6_prim (c : Dev nD) (A) : W6 m P9 P10 c A main_v9_0 = primOf m P9 P10 A := by
  unfold W6
  rw [Function.update_of_ne (StableHlo.devRef_ne_of_ne (by decide)), Function.update_self]
theorem W6_ref (c : Dev nD) (A) : W6 m P9 P10 c A main_v9_1 = refOf m P9 P10 A := by
  unfold W6
  rw [Function.update_self]

/-- A buffer nothing writes ends as launched. -/
theorem W7_of (c : Dev nD) (A) (r : Ref sig .tc)
    (h : r ∉ hostOps0_W ∧ r ∉ ([main_v2_0, main_v2_1, main_v2_2] : List (Ref sig .tc)) ∧ r ∉ hostOps1_W ∧ r ∉ hostOps1_1_W ∧ r ∉ hostOps1_2_W ∧ r ≠ main_v9_0 ∧ r ≠ main_v9_1 ∧ r ∉ hostOps2_W) :
    W7 m P9 P10 c A r = m ((c : Thread nD τ).loc r) :=
  (StableHlo.after_of_writes_sub hostOps2 _ hostOps2_writes h.2.2.2.2.2.2.2).trans <|
    (W6_of m P9 P10 c A r h.2.2.2.2.2.1 h.2.2.2.2.2.2.1).trans <| (V5_of m _ c r h.2.2.2.2.1).trans <| (V4_of m _ c r h.2.2.2.1).trans <|
    (V3_of m _ c r h.2.2.1).trans <| (V2_of m _ c r h.2.1).trans <| (V1_of m c r h.1).trans rfl

/-! ## The calls' records -/

abbrev Lev : GSem nD τ sig → Finset Unit := fun _ => ∅
abbrev lev : GSem nD τ sig → Unit → ℕ := fun _ _ => 0

theorem pre0 (c : Dev nD) : iprop(Pipeline.scopedRest spec0 c ∗ (∃ r, prngReg c r)) ⊢ (Pipeline.ΦA spec0 c : sProp 𝕄) := .rfl
theorem pre1 (c : Dev nD) : iprop(Pipeline.scopedRest spec1 c ∗ (∃ r, prngReg c r)) ⊢ (Pipeline.ΦA spec1 c : sProp 𝕄) := .rfl

theorem body0 (c : Dev nD) : (relFam (pcfgs (F := F)) adm (pdats m) fg (Rl P9 P10) 0 c).BodyObligation (defs₀ (F := F)) Variants.none () Set.univ :=
  (Prep.body_obligation (U1 m) c).toR

theorem body1 (hM : Score.Meets (U5 m) P9 P10) (c : Dev nD) :
    (relFam (pcfgs (F := F)) adm (pdats m) fg (Rl P9 P10) 1 c).BodyObligation (defs₀ (F := F)) Variants.none () Set.univ :=
  (Score.body_obligation (U5 m) hM c).toRRel

/-- The first call's arrays are left at the contents the proof data names. -/
theorem left0 (c : Dev nD) (A : LeftAt m P9 P10 0 c) (w : Fin cfg0.W) : A.1 w = (Prep.dat (U1 m) c).arrAt w cfg0.N :=
  ((Prep.dat (U1 m) c).toR_arrAt_iff w _ _).mp (A.2 w)

/-- The second call's read arrays are left as they were found. -/
theorem left1 (c : Dev nD) (A : LeftAt m P9 P10 1 c) (w : Fin cfg1.W) (hf : Score.fgt w = false) : A.1 w = (Score.dat (U5 m) c).arrAt w cfg1.N :=
  (((Score.dat (U5 m) c).toR.override_arrAt (by
    show (match Score.fgt w with | true => some _ | false => none) = none
    rw [hf]) _ _).trans ((Score.dat (U5 m) c).toR_arrAt_iff w _ _)).mp (A.2 w)

theorem mem0 (w : Fin cfg0.W) : (Proc.devRef .tc (Pipeline.arrRef spec0 w) : DevRef τ sig) ∈ Pipeline.arrRefs spec0 :=
  Finset.mem_map.mpr ⟨Pipeline.arrRef spec0 w, Finset.mem_image.mpr ⟨w, Finset.mem_univ _, rfl⟩, rfl⟩
theorem mem1 (w : Fin cfg1.W) : (Proc.devRef .tc (Pipeline.arrRef spec1 w) : DevRef τ sig) ∈ Pipeline.arrRefs spec1 :=
  Finset.mem_map.mpr ⟨Pipeline.arrRef spec1 w, Finset.mem_image.mpr ⟨w, Finset.mem_univ _, rfl⟩, rfl⟩

theorem ne0 {d : DevRef τ sig} (hd : d ∈ Pipeline.ucRefs τ sig \ Pipeline.arrRefs spec0) (w : Fin cfg0.W) : d ≠ Proc.devRef .tc (Pipeline.arrRef spec0 w) :=
  fun e => (Finset.mem_sdiff.mp hd).2 (e ▸ mem0 w)
theorem ne1 {d : DevRef τ sig} (hd : d ∈ Pipeline.ucRefs τ sig \ Pipeline.arrRefs spec1) (w : Fin cfg1.W) : d ≠ Proc.devRef .tc (Pipeline.arrRef spec1 w) :=
  fun e => (Finset.mem_sdiff.mp hd).2 (e ▸ mem1 w)

theorem V2_rest (c : Dev nD) (d : DevRef τ sig) (hd : d ∈ Pipeline.ucRefs τ sig \ Pipeline.arrRefs spec0) : V2 m (outs m) c d = V1 m c d := by
  unfold V2
  rw [Function.update_of_ne (ne0 hd 4), Function.update_of_ne (ne0 hd 3), Function.update_of_ne (ne0 hd 2)]
theorem W6_rest (c : Dev nD) (A) (d : DevRef τ sig) (hd : d ∈ Pipeline.ucRefs τ sig \ Pipeline.arrRefs spec1) : W6 m P9 P10 c A d = V5 m (outs m) c d := by
  unfold W6
  rw [Function.update_of_ne (ne1 hd 10), Function.update_of_ne (ne1 hd 9)]

theorem V2_xw (c : Dev nD) : V2 m (outs m) c main_v2_0 = xwArr m c := by
  unfold V2
  rw [Function.update_of_ne (StableHlo.devRef_ne_of_ne (by decide)), Function.update_of_ne (StableHlo.devRef_ne_of_ne (by decide)), Function.update_self, outs_0]
theorem V2_sq (c : Dev nD) : V2 m (outs m) c main_v2_1 = sqArr m c := by
  unfold V2
  rw [Function.update_of_ne (StableHlo.devRef_ne_of_ne (by decide)), Function.update_self, outs_1]
theorem V2_qmu (c : Dev nD) : V2 m (outs m) c main_v2_2 = qmuArr m c := by
  unfold V2
  rw [Function.update_self, outs_2]

theorem arr0 (c : Dev nD) (A : LeftAt m P9 P10 0 c) (w : Fin cfg0.W) : A.1 w = V2 m (outs m) c (Proc.devRef .tc (Pipeline.arrRef spec0 w)) := by
  refine (left0 m P9 P10 c A w).trans ?_
  match w with
  | ⟨0, _⟩ => exact ((Prep.dat (U1 m) c).arrAt_in 0 rfl _).trans (V2_of m (outs m) c main_v0 (by decide)).symm
  | ⟨1, _⟩ => exact ((Prep.dat (U1 m) c).arrAt_in 1 rfl _).trans (V2_of m (outs m) c main_v1 (by decide)).symm
  | ⟨2, _⟩ => exact (V2_xw m c).symm
  | ⟨3, _⟩ => exact (V2_sq m c).symm
  | ⟨4, _⟩ => exact (V2_qmu m c).symm

theorem arr1_in (c : Dev nD) (A : LeftAt m P9 P10 1 c) (w : Fin cfg1.W) (hf : Score.fgt w = false) (hin : (cfg1.win w).isOut = false)
    (h0 : Pipeline.arrRef spec1 w ≠ main_v9_0) (h1 : Pipeline.arrRef spec1 w ≠ main_v9_1) :
    A.1 w = W6 m P9 P10 c A (Proc.devRef .tc (Pipeline.arrRef spec1 w)) :=
  ((left1 m P9 P10 c A w hf).trans ((Score.dat (U5 m) c).arrAt_in w hin _)).trans (W6_of m P9 P10 c A _ h0 h1).symm

theorem arr1 (c : Dev nD) (A : LeftAt m P9 P10 1 c) (w : Fin cfg1.W) : A.1 w = W6 m P9 P10 c A (Proc.devRef .tc (Pipeline.arrRef spec1 w)) := by
  match w with
  | ⟨0, _⟩ => exact arr1_in m P9 P10 c A 0 rfl rfl (by decide) (by decide)
  | ⟨1, _⟩ => exact arr1_in m P9 P10 c A 1 rfl rfl (by decide) (by decide)
  | ⟨2, _⟩ => exact arr1_in m P9 P10 c A 2 rfl rfl (by decide) (by decide)
  | ⟨3, _⟩ => exact arr1_in m P9 P10 c A 3 rfl rfl (by decide) (by decide)
  | ⟨4, _⟩ => exact arr1_in m P9 P10 c A 4 rfl rfl (by decide) (by decide)
  | ⟨5, _⟩ => exact arr1_in m P9 P10 c A 5 rfl rfl (by decide) (by decide)
  | ⟨6, _⟩ => exact arr1_in m P9 P10 c A 6 rfl rfl (by decide) (by decide)
  | ⟨7, _⟩ => exact arr1_in m P9 P10 c A 7 rfl rfl (by decide) (by decide)
  | ⟨8, _⟩ => exact arr1_in m P9 P10 c A 8 rfl rfl (by decide) (by decide)
  | ⟨9, _⟩ => exact (W6_prim m P9 P10 c A).symm
  | ⟨10, _⟩ => exact (W6_ref m P9 P10 c A).symm

theorem share0 (c : Dev nD) (w : Fin cfg0.W) : (Prep.dat (U1 m) c).share w = fullShare := by
  unfold Dat.share; split <;> rfl
theorem share1 (c : Dev nD) (w : Fin cfg1.W) : (Score.dat (U5 m) c).share w = fullShare := by
  unfold Dat.share; split <;> rfl

theorem uns0 : ∀ w : Fin cfg0.W, (Pipeline.arrRef spec0 w).isScoped = false := by decide
theorem uns1 : ∀ w : Fin cfg1.W, (Pipeline.arrRef spec1 w).isScoped = false := by decide

def reg0 : RDat.RegionSeg (pcfgs (F := F)) adm (relFam (pcfgs (F := F)) adm (pdats m) fg (Rl P9 P10)) () defs₀ Variants.none Lev lev 0 :=
  regOf _ adm (pdats m) fg (Rl P9 P10) () defs₀ Variants.none Lev lev 0 launch0.toP rfl (body0 m P9 P10) (fun _ _ => rfl) (fun _ => rfl)
    (share0 m) uns0 (V1 m) (fun c _ => V2 m (outs m) c) (fun c A w => arr0 m P9 P10 c A w) (fun c _ d hd => V2_rest m c d hd)
    (fun c => pre0 c) (fun c => .rfl) (fun _ _ => rfl)

def reg1 (hM : Score.Meets (U5 m) P9 P10) :
    RDat.RegionSeg (pcfgs (F := F)) adm (relFam (pcfgs (F := F)) adm (pdats m) fg (Rl P9 P10)) () defs₀ Variants.none Lev lev 1 :=
  regOf _ adm (pdats m) fg (Rl P9 P10) () defs₀ Variants.none Lev lev 1 launch1.toP rfl (body1 m P9 P10 hM) (fun _ _ => rfl) (fun _ => rfl)
    (share1 m) uns1 (V5 m (outs m)) (fun c A => W6 m P9 P10 c A) (fun c A w => arr1 m P9 P10 c A w) (fun c A d hd => W6_rest m P9 P10 c A d hd)
    (fun c => pre1 c) (fun c => .rfl) (fun _ _ => rfl)

/-! ## @main -/

/-- The last host operations, from the contents the second call may have left. -/
def seg6A : HostSeg (Ix := Unit) (Name := ℕ) (U := UR sig nD τ) (Lvl := ℕ) (pcfgs (F := F)) defs₀ Variants.none Lev lev :=
  Pipeline.HostSeg.ofOpsEx (pcs := pcfgs (F := F)) (defs₀ := defs₀) (𝒱₀ := Variants.none) (L := Lev) (lv := lev)
    (Pipeline.ucRefs τ sig) hostOps2
    (fun op h => Pipeline.sub_ucRefs op ((List.forall_iff_forall_mem.mp hostOps2_sub) op h))
    (fun op h => (List.forall_iff_forall_mem.mp hostOps2_fresh) op h) (fun c A => W6 m P9 P10 c A) (fun c => Rest c)

/-- @main's items. -/
def segsA (hM : Score.Meets (U5 m) P9 P10) :
    List (RDat.Seg (pcfgs (F := F)) adm (relFam (pcfgs (F := F)) adm (pdats m) fg (Rl P9 P10)) () defs₀ Variants.none Lev lev) :=
  [.host (seg0 m Variants.none Lev lev (fun _ c => Rest c)), .region (reg0 m P9 P10),
    .host (seg2 m (outs m) Variants.none Lev lev (fun _ c => Rest c)), .host (seg3 m (outs m) Variants.none Lev lev (fun _ c => Rest c)),
    .host (seg4 m (outs m) Variants.none Lev lev (fun _ c => Rest c)), .region (reg1 m P9 P10 hM), .host (seg6A m P9 P10)]

set_option backward.isDefEq.respectTransparency.types false in
/-- The run of @main: it ends, every semaphore at zero, the buffers at `W7` for some contents `A` that the second call may have left. -/
theorem run (hM : Score.Meets (U5 m) P9 P10) (ρ : Dev nD → PrngReg) :
    θ_run defs (onTc (τ := τ) (main (F := F))) ⟨m, fun _ => 0, ρ⟩ (fun r => (∀ c : Dev nD, ∃ A : LeftAt m P9 P10 1 c,
      ∀ b ∈ Pipeline.ucRefs τ sig, r.2.mem (((c : Thread nD τ).1, b)) = W7 m P9 P10 c A b) ∧ r.2.sem = fun _ => 0) := by
  refine Pipeline.RDat.θ_run_regions_kit_dev_sems (pcfgs (F := F)) adm (relFam (pcfgs (F := F)) adm (pdats m) fg (Rl P9 P10)) () cellOf_inj emb₁
    defs₀ Variants.none Lev lev m ρ main (fun _ => segsA m P9 P10 hM)
    (fun c Q => by
      rewrite [main_chain c, RDat.Seg.run_eq_chain,
        show (segsA m P9 P10 hM).map RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segsA, RDat.Seg.pipes_host, RDat.Seg.pipes_region, RDat.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(∃ A : LeftAt m P9 P10 1 c, StableHlo.held (c : Thread nD τ) (Pipeline.ucRefs τ sig) (W7 m P9 P10 c A)))
    (hch := fun c => ⟨.rfl, .rfl, ?_, .rfl, .rfl, .rfl, .rfl, ?_⟩)
    (hinit := by
      refine Pipeline.initEach Lev lev fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ A : LeftAt m P9 P10 1 c, ∀ b ∈ Pipeline.ucRefs τ sig, s.mem (((c : Thread nD τ).1, b)) = W7 m P9 P10 c A b)
    (hfin := fun c s' => ?_) (hQ := fun _ h hz => ⟨h, funext fun g => hz g (.inr (regions_no_unscoped g.2))⟩)
  · -- the first call's results are the ones its proof data names
    show iprop((∃ A : LeftAt m P9 P10 0 c, StableHlo.held (c : Thread nD τ) (Pipeline.ucRefs τ sig) (V2 m (outs m) c)) ∗ Rest c)
      ⊢ (iprop(StableHlo.held (c : Thread nD τ) (Pipeline.ucRefs τ sig) (V2 m (outs m) c) ∗ Rest c) : sProp 𝕄)
    iintro ⟨⟨%A, H⟩, HR⟩
    isplitl [H]; · iexact H
    iexact HR
  · -- the end: the random-number register is dropped
    show iprop((∃ A : LeftAt m P9 P10 1 c, StableHlo.held (c : Thread nD τ) (Pipeline.ucRefs τ sig) (W7 m P9 P10 c A)) ∗ Rest c)
      ⊢ (iprop((∃ A : LeftAt m P9 P10 1 c, StableHlo.held (c : Thread nD τ) (Pipeline.ucRefs τ sig) (W7 m P9 P10 c A))
        ∗ ∃ W, owes (c : Thread nD τ) (0 : CellTallies nD τ sig Unit) W) : sProp 𝕄)
    iintro ⟨⟨%A, H⟩, -, HO⟩
    isplitl [H]; · iexists A; iexact H
    iexact HO
  · iintro ⟨⟨%A, Hh⟩, HSI⟩
    ihave Hr := (pointsTo_read_all (Pipeline.ucRefs τ sig) (fun b => ((c : Thread nD τ).1, b)) (W7 m P9 P10 c A) s') $$ [Hh HSI]
    · unfold StableHlo.held
      isplitl [Hh] <;> iassumption
    icases Hr with ⟨%h, HSI⟩
    imodintro
    isplitr
    · ipureintro
      exact ⟨A, h⟩
    · iexact HSI

/-- A buffer of @main is among those the run speaks of. -/
theorem mem_uc (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs b, by rw [h]; decide⟩

/-- The frame: @main ends, its arguments as launched, every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run m (fun _ _ _ => True) (fun _ _ _ => True) ⟨fun _ _ _ _ _ => trivial, fun _ _ _ _ _ _ _ _ => trivial⟩ ρ)
  obtain ⟨A, hA⟩ := h.1 c
  exact ⟨(hA _ (mem_uc main_arg0 rfl)).trans (W7_of m _ _ c A main_arg0 (by decide)),
    (hA _ (mem_uc main_arg1 rfl)).trans (W7_of m _ _ c A main_arg1 (by decide)),
    (hA _ (mem_uc main_arg2 rfl)).trans (W7_of m _ _ c A main_arg2 (by decide)),
    (hA _ (mem_uc main_arg3 rfl)).trans (W7_of m _ _ c A main_arg3 (by decide)),
    (hA _ (mem_uc main_arg4 rfl)).trans (W7_of m _ _ c A main_arg4 (by decide)),
    (hA _ (mem_uc main_arg5 rfl)).trans (W7_of m _ _ c A main_arg5 (by decide)),
    (hA _ (mem_uc main_arg6 rfl)).trans (W7_of m _ _ c A main_arg6 (by decide))⟩

end Cert.KernelIdeal.Run

end
-- ==== Proof.KernelIdeal.PrepPay.lean ====
module

public import Idealize.ShloMosaic.Lib.Pointwise
public import Idealize.ShloMosaic.Lib.Pipeline.ValueKit.Tiles
public import proofs.«01_k».proof.Proof.KernelIdeal.Prep
set_option maxRecDepth 16384
/-!
# What the first call stores, entry by entry, over the extended reals

A block of 640 rows is permuted column by column within each group of 256 (first the even columns of the group, then the
odd ones), and the row sums and the row's product with the mean vector are broadcast over 128 columns.
-/

@[expose] public section

noncomputable section
open Idealize.ShloMosaic Idealize.ShloMosaic.TcCoe Idealize.SL.Sem
open Cert.KernelIdeal Cert.KernelIdeal.Gen
namespace Cert.KernelIdeal.PrepPay

/-- The column, within a group of 256, that the permutation brings to column `j`. -/
def src (j : ℕ) : ℕ := if j < 128 then 2 * j else 2 * (j - 128) + 1

theorem src_lt {j : ℕ} (h : j < 256) : src j < 256 := by unfold src; split <;> omega

/-- The integer the kernel computes from a column number is the source column. -/
theorem col_bits : ∀ j : Fin 256,
    Scalar.select (IntOp.cmpi CmpIPredicate.slt (BitVec.ofNat 32 ↑j) 128#32)
            (IntOp.muli (2#32) (BitVec.ofNat 32 ↑j))
            (IntOp.addi (IntOp.muli (2#32) (IntOp.subi (BitVec.ofNat 32 ↑j) 128#32)) 1#32) = BitVec.ofNat 32 (src j.val) := by
  decide +kernel

/-- Equality of two small numbers, as a bit widened to an integer. -/
theorem eq_bits {a b : ℕ} (ha : a < 256) (hb : b < 256) :
    (BitVec.setWidth 32 (IntOp.cmpi CmpIPredicate.eq (BitVec.ofNat 32 a) (BitVec.ofNat 32 b))).toInt = if a = b then 1 else 0 := by
  unfold IntOp.cmpi
  by_cases h : a = b
  · subst h; simp
  · have : ¬ (BitVec.ofNat 32 a = BitVec.ofNat 32 b) := fun e => h (by
      have e' := congrArg BitVec.toNat e
      simp only [BitVec.toNat_ofNat] at e'
      omega)
    have hb' : (BitVec.ofNat 32 a == BitVec.ofNat 32 b) = false := beq_eq_false_iff_ne.2 this
    simp [h, hb']

/-- The permutation matrix, entry by entry. -/
theorem pay7_at (i j : Fin 256) : (k0_pay7 (F := Ideal)) (ix2 (n0 := 256) (n1 := 256) i j) = if i.val = src j.val then (1 : EReal) else 0 := by
  pointwise [k0_pay7]
  refine (congrArg (fun z : ℤ => ((z : ℝ) : EReal)) (((congrArg (fun b => (BitVec.setWidth 32 (IntOp.cmpi CmpIPredicate.eq (BitVec.ofNat 32 i.val) b)).toInt) (col_bits j))).trans (eq_bits i.isLt (src_lt j.isLt)))).trans ?_
  split <;> simp

/-- A product with the permutation matrix picks one entry. -/
theorem sum_perm (f : Fin 256 → EReal) (j : Fin 256) :
    ∑ k, f k * (k0_pay7 (F := Ideal)) (ix2 (n0 := 256) (n1 := 256) k j) = f ⟨src j.val, src_lt j.isLt⟩ := by
  rw [Finset.sum_eq_single (⟨src j.val, src_lt j.isLt⟩ : Fin 256)]
  · rw [pay7_at]; simp
  · intro k _ hk
    rw [pay7_at, if_neg (fun h => hk (Fin.ext h)), mul_zero]
  · intro h; exact absurd (Finset.mem_univ _) h

/-- The stored block of permuted columns. -/
theorem out2_at (x0 : FVec Ideal S640x1536 .bf16) (x1 : FVec Ideal S1x1536 .f32) (i : Fin 640) (k : Fin 1536) :
    Prep.out0_2 (F := Ideal) x0 x1 (ix2 (n0 := 640) (n1 := 1536) i k) = x0 (ix2 (n0 := 640) (n1 := 1536) i ⟨256 * (k.val / 256) + src (k.val % 256), by have := src_lt (Nat.mod_lt k.val (by decide : 0 < 256)); omega⟩) := by
  unfold Prep.out0_2
  canon_tiles x h
  all_goals pointwise [k0_pay1, k0_pay2, k0_pay6, k0_pay8, k0_pay9, k0_pay10, k0_pay11, k0_pay12]
  all_goals
    simp only [ix2_0, ix2_1] at h0 h1
    refine (sum_perm _ _).trans (congrArg x0 ((ix2_inj ..).2 ⟨Fin.ext ?_, Fin.ext ?_⟩))
    · exact h0.symm
    · have e : k.val % 256 = (x 1).val := by omega
      dsimp only
      rw [e]
      omega

/-- The stored block of row sums. -/
theorem out3_at (x0 : FVec Ideal S640x1536 .bf16) (x1 : FVec Ideal S1x1536 .f32) (i : Fin 640) (k : Fin 128) :
    Prep.out0_3 (F := Ideal) x0 x1 (ix2 (n0 := 640) (n1 := 128) i k) = ∑ l, x0 (ix2 (n0 := 640) (n1 := 1536) i l) := by
  unfold Prep.out0_3
  canon_tiles x h
  all_goals pointwise [k0_pay3, k0_pay4, k0_pay6]
  all_goals
    simp only [ix2_0] at h0
    rw [show (i : Fin 640) = x 0 from Fin.ext h0]

/-- The stored block of products with the mean vector. -/
theorem out4_at (x0 : FVec Ideal S640x1536 .bf16) (x1 : FVec Ideal S1x1536 .f32) (i : Fin 640) (k : Fin 128) :
    Prep.out0_4 (F := Ideal) x0 x1 (ix2 (n0 := 640) (n1 := 128) i k) = ∑ l, x0 (ix2 (n0 := 640) (n1 := 1536) i l) * x1 (ix2 (n0 := 1) (n1 := 1536) 0 l) := by
  unfold Prep.out0_4
  canon_tiles x h
  all_goals pointwise [k0_pay3, k0_pay5, k0_pay6]
  all_goals
    simp only [ix2_0] at h0
    rw [show (i : Fin 640) = x 0 from Fin.ext h0]

end Cert.KernelIdeal.PrepPay

end
-- ==== Proof.KernelIdeal.PrepVal.lean ====
module

public import Idealize.ShloMosaic.Lib.Pipeline.ValueKit
public import proofs.«01_k».proof.Proof.KernelIdeal.PrepPay
set_option maxRecDepth 16384
/-!
# The arrays the first call leaves, entry by entry

The six row blocks tile each array, so every entry is the one its block stores.
-/

@[expose] public section

noncomputable section
open Idealize.ShloMosaic Idealize.ShloMosaic.TcCoe Idealize.SL.Sem
open Cert.KernelIdeal Cert.KernelIdeal.Gen
namespace Cert.KernelIdeal.PrepVal
open PrepPay
/-- The column of the first operand that stands at column `k` of the permuted one. -/
def srcCol (k : Fin 1536) : Fin 1536 := ⟨256 * (k.val / 256) + src (k.val % 256), by have := src_lt (Nat.mod_lt k.val (by decide : 0 < 256)); omega⟩

variable (V : (c : Dev nD) → (b : Ref sig .tc) → Buf (Elt Ideal) ((c : Thread nD τ).loc b))

/-- The blocks each grid point reads and writes. -/
theorem idx : ∀ t : Fin cfg0.N, win0_0.index t = ![(grid0.coords t 0).val, 0] ∧ win0_1.index t = ![0, 0] ∧ win0_2.index t = ![(grid0.coords t 0).val, 0]
    ∧ win0_3.index t = ![(grid0.coords t 0).val, 0] ∧ win0_4.index t = ![(grid0.coords t 0).val, 0] :=
  (by decide +kernel : ∀ t : Fin grid0.N, _)

/-- The permuted operand. -/
theorem xw_eq (c : Dev nD) : (Prep.dat (F := Ideal) V c).arrAt 2 cfg0.N = (fun j => V c main_v0 (ix2 (n0 := 3840) (n1 := 1536) (j 0) (srcCol (j 1)))) := by
  refine (Prep.dat V c).arrAt_eq_of_covers 2 _ (by decide +kernel) fun t _ y => ?_
  blk_simp
  rw [Prep.after0_2]
  idx_vars y
  refine (out2_at _ _ _ _).trans ?_
  blk_point [Prep.iblk, idx t, srcCol]
/-- The row sums. -/
theorem sq_eq (c : Dev nD) : (Prep.dat (F := Ideal) V c).arrAt 3 cfg0.N
    = (fun j => ∑ l : Fin 1536, (show EReal from V c main_v0 (ix2 (n0 := 3840) (n1 := 1536) (j 0) l))) := by
  refine (Prep.dat V c).arrAt_eq_of_covers 3 _ (by decide +kernel) fun t _ y => ?_
  blk_simp
  rw [Prep.after0_3]
  idx_vars y
  refine (out3_at _ _ _ _).trans ?_
  blk_point [Prep.iblk, idx t]

/-- The rows' products with the mean vector. -/
theorem qmu_eq (c : Dev nD) : (Prep.dat (F := Ideal) V c).arrAt 4 cfg0.N
    = (fun j => ∑ l : Fin 1536, (show EReal from V c main_v0 (ix2 (n0 := 3840) (n1 := 1536) (j 0) l))
        * (show EReal from V c main_v1 (ix2 (n0 := 1) (n1 := 1536) 0 l))) := by
  refine (Prep.dat V c).arrAt_eq_of_covers 4 _ (by decide +kernel) fun t _ y => ?_
  blk_simp
  rw [Prep.after0_4]
  idx_vars y
  refine (out4_at _ _ _ _).trans ?_
  blk_point [Prep.iblk, idx t]

end Cert.KernelIdeal.PrepVal

end
-- ==== Proof.KernelIdeal.ScorePay.lean ====
module

public import Idealize.ShloMosaic.Lib.Pointwise
public import Idealize.ShloMosaic.Lib.Pipeline.ValueKit
public import proofs.«01_k».proof.Proof.KernelIdeal.Body
set_option maxRecDepth 16384

/-!
# What the second call stores, entry by entry, over the extended reals

A block of 256 codes is decoded into two scratch arrays.  The primary score of a row against code `b` of the block is
`pScore`; the refined one is `fScore`, stored where the row's candidate falls into the block.
-/

@[expose] public section

noncomputable section
open Idealize.ShloMosaic Idealize.ShloMosaic.TcCoe Idealize.SL.Sem
open Cert.KernelIdeal Cert.KernelIdeal.Gen
namespace Cert.KernelIdeal.ScorePay
open Score

/-- The low half of a byte of codes, the high half, and the whole byte, as numbers. -/
def nib0 (v : BitVec 8) : EReal := (((IntOp.andi (v.setWidth 32) 15#32).toInt : ℝ) : EReal)
def nib1 (v : BitVec 8) : EReal := (((IntOp.shrsi ArithUnit.host (v.setWidth 32) 4#32).toInt : ℝ) : EReal)
def byte (v : BitVec 8) : EReal := (((v.setWidth 32).toInt : ℝ) : EReal)

/-- The byte of a row of packed codes that column `x` of the decoded row comes from. -/
def byteCol (x : Fin 1536) : Fin 768 := ⟨128 * (x.val / 256) + x.val % 128, by omega⟩

/-- Column `x` of a decoded row of primary codes. -/
def wAt {n : ℕ} (x5 : IVec ⟨2, ![n, 768]⟩ 8) (b : Fin n) (x : Fin 1536) : EReal :=
  if x.val % 256 < 128 then nib0 (x5 (ix2 (n0 := n) (n1 := 768) b (byteCol x))) else nib1 (x5 (ix2 (n0 := n) (n1 := 768) b (byteCol x)))

theorem wOf_at (x5 : IVec S256x768 8) (i : Fin 256) (j : Fin 1536) :
    wOf (F := Ideal) x5 (ix2 (n0 := 256) (n1 := 1536) i j) = wAt x5 i j := by
  unfold wOf wAt
  canon_tiles x h
  all_goals pointwise [k1_pay17, k1_pay18, k1_pay19, k1_pay20, k1_pay21, k1_pay22, k1_pay23, k1_pay24, k1_pay25, k1_pay26, k1_pay27, k1_pay28, k1_pay29, k1_pay30, k1_pay31, k1_pay32]
  all_goals
    simp only [ix2_0, ix2_1] at h0 h1
    first
      | rw [if_pos (by omega)]
        refine congrArg (fun v : BitVec 8 => nib0 v) (congrArg x5 ((ix2_inj ..).2 ⟨Fin.ext h0.symm, Fin.ext ?_⟩))
        simp only [byteCol]
        omega
      | rw [if_neg (by omega)]
        refine congrArg (fun v : BitVec 8 => nib1 v) (congrArg x5 ((ix2_inj ..).2 ⟨Fin.ext h0.symm, Fin.ext ?_⟩))
        simp only [byteCol]
        omega

theorem rOf_at (x8 : IVec S256x1536 8) (i : Fin 256) (j : Fin 1536) :
    rOf (F := Ideal) x8 (ix2 (n0 := 256) (n1 := 1536) i j) = byte (x8 (ix2 (n0 := 256) (n1 := 1536) i j)) := by
  unfold rOf
  canon_tiles x h
  all_goals pointwise [k1_pay33]
  all_goals
    simp only [ix2_0, ix2_1] at h0 h1
    exact congrArg (fun v => byte (x8 v)) ((eq_ix2 x).trans ((ix2_inj ..).2 ⟨Fin.ext h0.symm, Fin.ext h1.symm⟩))

/-! ## Candidates -/

/-- The lane that a candidate is looked up at. -/
theorem lane_bits (c : BitVec 32) :
    (Scalar.select (IntOp.cmpi CmpIPredicate.slt (IntOp.andi c 127#32) 0#32) (IntOp.addi (IntOp.andi c 127#32) 128#32) (IntOp.andi c 127#32)).toNat % 128
      = c.toNat % 128 := by
  have h : (c &&& 127#32).toNat = c.toNat % 128 := by
    rw [BitVec.toNat_and]; exact Nat.and_two_pow_sub_one_eq_mod c.toNat 7
  have hs : (c &&& 127#32).slt 0#32 = false := by
    rw [BitVec.slt_eq_decide, decide_eq_false_iff_not, BitVec.toInt_eq_toNat_of_lt (by rw [h]; omega)]
    simp
  have e : IntOp.cmpi CmpIPredicate.slt (IntOp.andi c 127#32) 0#32 = 0#1 := by
    unfold IntOp.cmpi IntOp.andi; simp only [hs]; rfl
  rw [e]
  show (c &&& 127#32).toNat % 128 = _
  rw [h]; omega

/-- The test that a candidate falls into half `d` of block `t`. -/
theorem hit_bits (c : BitVec 32) (t : ℕ) (ht : t < 196) (d : BitVec 32) (hd : d.toNat < 2) :
    IntOp.cmpi CmpIPredicate.eq (IntOp.shrsi ArithUnit.vector c 7#32) (Scalar.addi (Scalar.muli (BitVec.ofNat 32 t) 2#32) d)
      = if c.toInt / 128 = 2 * t + d.toNat then 1#1 else 0#1 := by
  have e1 : (IntOp.shrsi ArithUnit.vector c 7#32).toInt = c.toInt / 128 := by
    show (c.sshiftRight' 7#32).toInt = _
    rw [BitVec.sshiftRight', BitVec.toInt_sshiftRight, Int.shiftRight_eq_div_pow]
    rfl
  have e2 : (Scalar.addi (Scalar.muli (BitVec.ofNat 32 t) 2#32) d).toInt = 2 * t + d.toNat := by
    show (BitVec.ofNat 32 t * 2#32 + d).toInt = _
    have : (BitVec.ofNat 32 t * 2#32 + d).toNat = 2 * t + d.toNat := by
      rw [BitVec.toNat_add, BitVec.toNat_mul, BitVec.toNat_ofNat]
      simp only [BitVec.toNat_ofNat]
      omega
    rw [BitVec.toInt_eq_toNat_of_lt (by omega), this]; push_cast; ring
  unfold IntOp.cmpi
  by_cases h : c.toInt / 128 = 2 * t + d.toNat
  · rw [if_pos h]
    have : IntOp.shrsi ArithUnit.vector c 7#32 = Scalar.addi (Scalar.muli (BitVec.ofNat 32 t) 2#32) d :=
      BitVec.eq_of_toInt_eq (by rw [e1, e2, h])
    rw [this]; simp
  · rw [if_neg h]
    have : ¬ IntOp.shrsi ArithUnit.vector c 7#32 = Scalar.addi (Scalar.muli (BitVec.ofNat 32 t) 2#32) d :=
      fun e => h (by rw [← e1, e, e2])
    simp only [beq_eq_false_iff_ne.2 this]; rfl

theorem select_ite {p : Prop} [Decidable p] (a b : EReal) : Scalar.select (if p then 1#1 else 0#1) a b = if p then a else b := by
  split <;> rfl

section
variable (x0 x1 : FVec Ideal S3840x1536 .bf16) (x2 x3 : FVec Ideal S3840x128 .f32) (x4 : IVec S3840x128 32)
  (x6 x7 : FVec Ideal S1x256 .f32) (w r : FVec Ideal S256x1536 .bf16)

/-- The primary score of row `a` against code `b` of the block; `l` is the lane at which the row's sums are read. -/
def pScore (a : Fin 3840) (l : Fin 128) (b : Fin 256) : EReal :=
  x3 (ix2 (n0 := 3840) (n1 := 128) a l) + x6 (ix2 (n0 := 1) (n1 := 256) 0 b) * x2 (ix2 (n0 := 3840) (n1 := 128) a l)
    + x7 (ix2 (n0 := 1) (n1 := 256) 0 b) * ∑ x, x1 (ix2 (n0 := 3840) (n1 := 1536) a x) * w (ix2 (n0 := 256) (n1 := 1536) b x)

/-- The refined score. -/
def fScore (a : Fin 3840) (l : Fin 128) (b : Fin 256) : EReal :=
  pScore x1 x2 x3 x6 x7 w a l b + x7 (ix2 (n0 := 1) (n1 := 256) 0 b) * Ideal.ofBits FTy.f32 998244352#32
    * ((∑ x, x0 (ix2 (n0 := 3840) (n1 := 1536) a x) * r (ix2 (n0 := 256) (n1 := 1536) b x))
      - Ideal.ofBits FTy.f32 1124073472#32 * x2 (ix2 (n0 := 3840) (n1 := 128) a l))

/-- Row `i` of chunk `k`, a lane of 128, and the two columns of the block it stands for. -/
def rowOf (k : Fin k1_t1_loop.trips) (i : Fin 256) : Fin 3840 := ⟨256 * k.val + i.val, by have h := k.isLt; have e := trips_eq; omega⟩
def bLo (j : Fin 128) : Fin 256 := ⟨j.val, by omega⟩
def bHi (j : Fin 128) : Fin 256 := ⟨128 + j.val, by omega⟩

theorem pLo_at (k : Fin k1_t1_loop.trips) (i : Fin 256) (j : Fin 128) :
    pLo (F := Ideal) x1 x2 x3 x6 x7 w k (ix2 (n0 := 256) (n1 := 128) i j) = pScore x1 x2 x3 x6 x7 w (rowOf k i) j (bLo j) := by
  unfold pLo
  pointwise [k1_pay11, off1_eq, off2_eq, k1_pay2, k1_pay4, k1_pay5, k1_pay10]
  rfl

theorem pHi_at (k : Fin k1_t1_loop.trips) (i : Fin 256) (j : Fin 128) :
    pHi (F := Ideal) x1 x2 x3 x6 x7 w k (ix2 (n0 := 256) (n1 := 128) i j) = pScore x1 x2 x3 x6 x7 w (rowOf k i) j (bHi j) := by
  unfold pHi
  pointwise [k1_pay14, off1_eq, off2_eq, k1_pay2, k1_pay4, k1_pay5, k1_pay10, k1_pay13]
  rfl

/-- The lane of a candidate. -/
def lane (c : BitVec 32) : Fin 128 := ⟨c.toNat % 128, Nat.mod_lt _ (by decide)⟩

theorem accLo_at (t : ℕ) (ht : t < 196) (k : Fin k1_t1_loop.trips) (acc : FVec Ideal S256x128 .f32) (i : Fin 256) (j : Fin 128) :
    accLo (F := Ideal) x0 x1 x2 x3 x4 x6 x7 w r (BitVec.ofNat 32 t) k acc (ix2 (n0 := 256) (n1 := 128) i j)
      = if (x4 (ix2 (n0 := 3840) (n1 := 128) (rowOf k i) j)).toInt / 128 = 2 * t
        then fScore x0 x1 x2 x3 x6 x7 w r (rowOf k i) (lane (x4 (ix2 (n0 := 3840) (n1 := 128) (rowOf k i) j))) (bLo (lane (x4 (ix2 (n0 := 3840) (n1 := 128) (rowOf k i) j))))
        else acc (ix2 (n0 := 256) (n1 := 128) i j) := by
  unfold accLo
  have hP := pLo_at x1 x2 x3 x6 x7 w k i
  generalize pLo (F := Ideal) x1 x2 x3 x6 x7 w k = P at hP ⊢
  pointwise [k1_pay12, off1_eq, off2_eq, k1_pay3, k1_pay4, k1_pay5, k1_pay10, k1_pay7, k1_pay8, k1_pay6, k1_pay9]
  simp only [lane_bits]
  rw [hit_bits _ t ht 0#32 (by decide), select_ite, hP]
  simp only [BitVec.toNat_ofNat, Nat.zero_mod, Nat.cast_zero, add_zero]
  rfl

theorem accHi_at (t : ℕ) (ht : t < 196) (k : Fin k1_t1_loop.trips) (acc : FVec Ideal S256x128 .f32) (i : Fin 256) (j : Fin 128) :
    accHi (F := Ideal) x0 x1 x2 x3 x4 x6 x7 w r (BitVec.ofNat 32 t) k acc (ix2 (n0 := 256) (n1 := 128) i j)
      = if (x4 (ix2 (n0 := 3840) (n1 := 128) (rowOf k i) j)).toInt / 128 = 2 * t + 1
        then fScore x0 x1 x2 x3 x6 x7 w r (rowOf k i) (lane (x4 (ix2 (n0 := 3840) (n1 := 128) (rowOf k i) j))) (bHi (lane (x4 (ix2 (n0 := 3840) (n1 := 128) (rowOf k i) j))))
        else if (x4 (ix2 (n0 := 3840) (n1 := 128) (rowOf k i) j)).toInt / 128 = 2 * t
        then fScore x0 x1 x2 x3 x6 x7 w r (rowOf k i) (lane (x4 (ix2 (n0 := 3840) (n1 := 128) (rowOf k i) j))) (bLo (lane (x4 (ix2 (n0 := 3840) (n1 := 128) (rowOf k i) j))))
        else acc (ix2 (n0 := 256) (n1 := 128) i j) := by
  rw [← accLo_at x0 x1 x2 x3 x4 x6 x7 w r t ht k acc i j]
  unfold accHi
  have hP := pHi_at x1 x2 x3 x6 x7 w k i
  generalize pHi (F := Ideal) x1 x2 x3 x6 x7 w k = P at hP ⊢
  generalize accLo (F := Ideal) x0 x1 x2 x3 x4 x6 x7 w r (BitVec.ofNat 32 t) k acc = A
  pointwise [k1_pay1, k1_pay15, off1_eq, off2_eq, k1_pay3, k1_pay4, k1_pay5, k1_pay10, k1_pay7, k1_pay8, k1_pay6, k1_pay9, k1_pay13]
  simp only [lane_bits]
  rw [hit_bits _ t ht 1#32 (by decide), select_ite, hP]
  simp only [BitVec.toNat_ofNat, Nat.one_mod, Nat.cast_one, Nat.reducePow, Nat.reduceMod]
  rfl

/-- The block of primary scores. -/
theorem outP_at (a : Fin 3840) (b : Fin 256) :
    ∃ l : Fin 128, outP (F := Ideal) x1 x2 x3 x6 x7 w (ix2 (n0 := 3840) (n1 := 256) a b) = pScore x1 x2 x3 x6 x7 w a l b := by
  have hrow : rowOf (tripOf a) (rowIn a) = a := Fin.ext (by simp only [rowOf, tripOf, rowIn]; omega)
  unfold outP asmP
  simp only [ix2_0, ix2_1]
  by_cases h : b.val < 128
  · refine ⟨colLo b h, (dif_pos h).trans ((pLo_at _ _ _ _ _ _ _ _ _).trans ?_)⟩
    rw [hrow]; rfl
  · refine ⟨colHi b h, (dif_neg h).trans ((pHi_at _ _ _ _ _ _ _ _ _).trans ?_)⟩
    rw [hrow]
    exact congrArg _ (Fin.ext (by simp only [bHi, colHi]; omega))

/-- The column of the block that a candidate falls on. -/
def col (c : BitVec 32) : Fin 256 := ⟨c.toNat % 256, Nat.mod_lt _ (by decide)⟩

/-- The block of refined scores, from the one before. -/
theorem outR_at (t : ℕ) (ht : t < 196) (Y : FVec Ideal S3840x128 .f32) (a : Fin 3840) (j : Fin 128) :
    outR (F := Ideal) x0 x1 x2 x3 x4 x6 x7 w r (BitVec.ofNat 32 t) Y (ix2 (n0 := 3840) (n1 := 128) a j)
      = if (x4 (ix2 (n0 := 3840) (n1 := 128) a j)).toInt / 256 = t
        then fScore x0 x1 x2 x3 x6 x7 w r a (lane (x4 (ix2 (n0 := 3840) (n1 := 128) a j))) (col (x4 (ix2 (n0 := 3840) (n1 := 128) a j)))
        else Y (ix2 (n0 := 3840) (n1 := 128) a j) := by
  have hrow : rowOf (tripOf a) (rowIn a) = a := Fin.ext (by simp only [rowOf, tripOf, rowIn]; omega)
  unfold outR asmR
  simp only [ix2_0, ix2_1]
  refine (accHi_at _ _ _ _ _ _ _ _ _ t ht _ _ _ _).trans ?_
  rw [hrow]
  generalize x4 (ix2 (n0 := 3840) (n1 := 128) a j) = c
  by_cases h1 : c.toInt / 128 = 2 * t + 1
  · rw [if_pos h1, if_pos (by omega)]
    refine congrArg _ (Fin.ext ?_)
    have := BitVec.toInt_eq_toNat_cond c
    simp only [bHi, lane, col]
    split at this <;> omega
  · rw [if_neg h1]
    by_cases h0 : c.toInt / 128 = 2 * t
    · rw [if_pos h0, if_pos (by omega)]
      refine congrArg _ (Fin.ext ?_)
      have := BitVec.toInt_eq_toNat_cond c
      simp only [bLo, lane, col]
      split at this <;> omega
    · rw [if_neg h0, if_neg (by omega)]
      pointwise [off2_eq]
      exact congrArg Y ((ix2_inj ..).2 ⟨hrow, rfl⟩)
end
end Cert.KernelIdeal.ScorePay

end
-- ==== Proof.KernelIdeal.ScoreVal.lean ====
module

public import Idealize.ShloMosaic.Lib.Pointwise
public import Idealize.ShloMosaic.Lib.Pipeline.ValueKit
public import proofs.«01_k».proof.Proof.KernelIdeal.Obl
public import proofs.«01_k».proof.Proof.KernelIdeal.ScorePay
set_option maxRecDepth 16384

/-!
# What each grid point of the second call leaves, in terms of the arrays it reads

`primG` and `fullG` are the primary and the refined score of a row against one of the 50000 codes.  The blocks of the
last grid point reach beyond the arrays; nothing is claimed of the columns there.
-/

@[expose] public section

noncomputable section
open Idealize.ShloMosaic Idealize.ShloMosaic.TcCoe Idealize.SL.Sem
open Cert.KernelIdeal Cert.KernelIdeal.Gen
namespace Cert.KernelIdeal.ScoreVal
open Score ScorePay
variable (V : (c : Dev nD) → (b : Ref sig .tc) → Buf (Elt Ideal) ((c : Thread nD τ).loc b))

/-- The blocks each grid point reads and writes. -/
theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![t.val, 0] ∧ win1_6.index t = ![0, t.val] ∧ win1_7.index t = ![0, t.val]
    ∧ win1_8.index t = ![t.val, 0] ∧ win1_9.index t = ![0, t.val] ∧ win1_10.index t = ![0, 0] ∧ (grid1.coords t 0).val = t.val :=
  (by decide +kernel : ∀ t : Fin grid1.N, _)

/-- How much of a block lies inside its array. -/
theorem xsz5 : ∀ t : Fin cfg1.N, (∀ a, (cfg1.win 5).xsize (cfg1.grid.coords t) a = ![min 256 (50000 - 256 * t.val), 768] a) :=
  (by decide +kernel : ∀ t : Fin grid1.N, _)
theorem xsz6 : ∀ t : Fin cfg1.N, (∀ a, (cfg1.win 6).xsize (cfg1.grid.coords t) a = ![1, min 256 (50000 - 256 * t.val)] a) :=
  (by decide +kernel : ∀ t : Fin grid1.N, _)
theorem xsz7 : ∀ t : Fin cfg1.N, (∀ a, (cfg1.win 7).xsize (cfg1.grid.coords t) a = ![1, min 256 (50000 - 256 * t.val)] a) :=
  (by decide +kernel : ∀ t : Fin grid1.N, _)
theorem xsz8 : ∀ t : Fin cfg1.N, (∀ a, (cfg1.win 8).xsize (cfg1.grid.coords t) a = ![min 256 (50000 - 256 * t.val), 1536] a) :=
  (by decide +kernel : ∀ t : Fin grid1.N, _)

theorem blk0_eq (c : Dev nD) (t : Fin cfg1.N) : blk0 V c t = V c main_v0 := by blk_ext! [iblk, idx1 t]
theorem blk1_eq (c : Dev nD) (t : Fin cfg1.N) : blk1 V c t = V c main_v2_0 := by blk_ext! [iblk, idx1 t]
theorem blk2_eq (c : Dev nD) (t : Fin cfg1.N) : blk2 V c t = V c main_v2_1 := by blk_ext! [iblk, idx1 t]
theorem blk3_eq (c : Dev nD) (t : Fin cfg1.N) : blk3 V c t = V c main_v2_2 := by blk_ext! [iblk, idx1 t]
theorem blk4_eq (c : Dev nD) (t : Fin cfg1.N) : blk4 V c t = V c main_v4 := by blk_ext! [iblk, idx1 t]

theorem blk5_at (c : Dev nD) (t : Fin cfg1.N) (d : Vec Ideal S256x768 .i8) (b : Fin 256) (x : Fin 768) (h : 256 * t.val + b.val < 50000) :
    blk5 V c t d (ix2 (n0 := 256) (n1 := 768) b x) = V c main_arg2 (ix2 (n0 := 50000) (n1 := 768) ⟨256 * t.val + b.val, h⟩ x) := by
  have hm : (cfg1.win 5).moved (cfg1.grid.coords t) (ix2 (n0 := 256) (n1 := 768) b x) = true :=
    ((cfg1.win 5).moved_iff _ _).mpr fun a => by
      rw [xsz5 t a]
      fin_cases a
      · show b.val < min 256 (50000 - 256 * t.val); omega
      · exact x.isLt
  unfold blk5 Pipeline.Window.fill
  rw [dif_pos hm]
  blk_ext [iblk, idx1 t]

theorem blk8_at (c : Dev nD) (t : Fin cfg1.N) (d : Vec Ideal S256x1536 .i8) (b : Fin 256) (x : Fin 1536) (h : 256 * t.val + b.val < 50000) :
    blk8 V c t d (ix2 (n0 := 256) (n1 := 1536) b x) = V c main_arg5 (ix2 (n0 := 50000) (n1 := 1536) ⟨256 * t.val + b.val, h⟩ x) := by
  have hm : (cfg1.win 8).moved (cfg1.grid.coords t) (ix2 (n0 := 256) (n1 := 1536) b x) = true :=
    ((cfg1.win 8).moved_iff _ _).mpr fun a => by
      rw [xsz8 t a]
      fin_cases a
      · show b.val < min 256 (50000 - 256 * t.val); omega
      · exact x.isLt
  unfold blk8 Pipeline.Window.fill
  rw [dif_pos hm]
  blk_ext [iblk, idx1 t]

theorem blk6_at (c : Dev nD) (t : Fin cfg1.N) (d : Vec Ideal S1x256 .f32) (b : Fin 256) (h : 256 * t.val + b.val < 50000) :
    blk6 V c t d (ix2 (n0 := 1) (n1 := 256) 0 b) = V c main_v6 (ix2 (n0 := 1) (n1 := 50000) 0 ⟨256 * t.val + b.val, h⟩) := by
  have hm : (cfg1.win 6).moved (cfg1.grid.coords t) (ix2 (n0 := 1) (n1 := 256) 0 b) = true :=
    ((cfg1.win 6).moved_iff _ _).mpr fun a => by
      rw [xsz6 t a]
      fin_cases a
      · exact Nat.one_pos
      · show b.val < min 256 (50000 - 256 * t.val); omega
  unfold blk6 Pipeline.Window.fill
  rw [dif_pos hm]
  blk_ext [iblk, idx1 t]

theorem blk7_at (c : Dev nD) (t : Fin cfg1.N) (d : Vec Ideal S1x256 .f32) (b : Fin 256) (h : 256 * t.val + b.val < 50000) :
    blk7 V c t d (ix2 (n0 := 1) (n1 := 256) 0 b) = V c main_v8 (ix2 (n0 := 1) (n1 := 50000) 0 ⟨256 * t.val + b.val, h⟩) := by
  have hm : (cfg1.win 7).moved (cfg1.grid.coords t) (ix2 (n0 := 1) (n1 := 256) 0 b) = true :=
    ((cfg1.win 7).moved_iff _ _).mpr fun a => by
      rw [xsz7 t a]
      fin_cases a
      · exact Nat.one_pos
      · show b.val < min 256 (50000 - 256 * t.val); omega
  unfold blk7 Pipeline.Window.fill
  rw [dif_pos hm]
  blk_ext [iblk, idx1 t]

/-! ## The scores -/

section
variable (xf xw : Fin 3840 → Fin 1536 → EReal) (sq qm : Fin 3840 → EReal) (codes : IVec S50000x768 8) (bound step : Fin 50000 → EReal)
  (res : IVec S50000x1536 8)

/-- The primary score of a row against a code. -/
def primG (a : Fin 3840) (n : Fin 50000) : EReal :=
  qm a + bound n * sq a + step n * ∑ x, xw a x * wAt codes n x
/-- The refined score of a row against a code. -/
def fullG (a : Fin 3840) (n : Fin 50000) : EReal :=
  primG xw sq qm codes bound step a n + step n * Ideal.ofBits FTy.f32 998244352#32
    * ((∑ x, xf a x * byte (res (ix2 (n0 := 50000) (n1 := 1536) n x))) - Ideal.ofBits FTy.f32 1124073472#32 * sq a)
end

section
variable (xw : Dev nD → Fin 3840 → Fin 1536 → EReal) (sq qm : Dev nD → Fin 3840 → EReal)

/-- The primary score, over the arrays that the call finds. -/
def primV (c : Dev nD) (a : Fin 3840) (n : Fin 50000) : EReal :=
  primG (xw c) (sq c) (qm c) (V c main_arg2) (fun n => V c main_v6 (ix2 (n0 := 1) (n1 := 50000) 0 n)) (fun n => V c main_v8 (ix2 (n0 := 1) (n1 := 50000) 0 n)) a n
/-- The refined score, over the arrays that the call finds. -/
def fullV (c : Dev nD) (a : Fin 3840) (n : Fin 50000) : EReal :=
  fullG (fun a x => V c main_v0 (ix2 (n0 := 3840) (n1 := 1536) a x)) (xw c) (sq c) (qm c) (V c main_arg2)
    (fun n => V c main_v6 (ix2 (n0 := 1) (n1 := 50000) 0 n)) (fun n => V c main_v8 (ix2 (n0 := 1) (n1 := 50000) 0 n)) (V c main_arg5) a n

/-- What a grid point leaves of the primary scores: its block, where it lies inside the array. -/
def P9 (c : Dev nD) (t : Fin cfg1.N) (X : Vec Ideal S3840x256 .f32) : Prop :=
  ∀ (a : Fin 3840) (b : Fin 256) (h : 256 * t.val + b.val < 50000), X (ix2 (n0 := 3840) (n1 := 256) a b) = primV V xw sq qm c a ⟨256 * t.val + b.val, h⟩
/-- What a grid point leaves of the refined scores: those of the candidates in the blocks so far. -/
def P10 (c : Dev nD) (t : Fin cfg1.N) (X : Vec Ideal S3840x128 .f32) : Prop :=
  ∀ (a : Fin 3840) (l : Fin 128) (n : Fin 50000), (V c main_v4 : IVec S3840x128 32) (ix2 (n0 := 3840) (n1 := 128) a l) = BitVec.ofNat 32 n.val → n.val / 256 ≤ t.val →
    X (ix2 (n0 := 3840) (n1 := 128) a l) = fullV V xw sq qm c a n

/-- The test at the head of the body holds at the first grid point alone. -/
theorem first_zero : ∀ t : Fin cfg1.N, isFirst (grid1.coords t) → t.val = 0 := (by decide +kernel : ∀ t : Fin grid1.N, _)

theorem coord (t : Fin cfg1.N) : (grid1.coords t 0).val = t.val := (idx1 t).2.2.2.2.2.2.2.2.2.2.2

variable (hxw : ∀ c a x, V c main_v2_0 (ix2 (n0 := 3840) (n1 := 1536) a x) = xw c a x) (hsq : ∀ c a l, V c main_v2_1 (ix2 (n0 := 3840) (n1 := 128) a l) = sq c a)
  (hqm : ∀ c a l, V c main_v2_2 (ix2 (n0 := 3840) (n1 := 128) a l) = qm c a)
include hxw hsq hqm

theorem pScore_blk (c : Dev nD) (t : Fin cfg1.N) (d5 d6 d7) (a : Fin 3840) (l : Fin 128) (b : Fin 256) (h : 256 * t.val + b.val < 50000) :
    pScore (V c main_v2_0) (V c main_v2_1) (V c main_v2_2) (blk6 V c t d6) (blk7 V c t d7) (wOf (F := Ideal) (blk5 V c t d5)) a l b
      = primV V xw sq qm c a ⟨256 * t.val + b.val, h⟩ := by
  unfold pScore primV primG
  rw [blk6_at V c t d6 b h, blk7_at V c t d7 b h, hsq, hqm]
  refine congrArg _ (congrArg _ (Finset.sum_congr rfl fun x _ => ?_))
  rw [hxw, wOf_at]
  unfold wAt
  rw [blk5_at V c t d5 b _ h]

theorem fScore_blk (c : Dev nD) (t : Fin cfg1.N) (d5 d6 d7 d8) (a : Fin 3840) (l : Fin 128) (b : Fin 256) (h : 256 * t.val + b.val < 50000) :
    fScore (V c main_v0) (V c main_v2_0) (V c main_v2_1) (V c main_v2_2) (blk6 V c t d6) (blk7 V c t d7) (wOf (F := Ideal) (blk5 V c t d5)) (rOf (F := Ideal) (blk8 V c t d8)) a l b
      = fullV V xw sq qm c a ⟨256 * t.val + b.val, h⟩ := by
  unfold fScore fullV fullG
  rw [pScore_blk V xw sq qm hxw hsq hqm c t d5 d6 d7 a l b h, blk7_at V c t d7 b h, hsq]
  refine congrArg _ (congrArg _ (congrArg (· - _) (Finset.sum_congr rfl fun x _ => ?_)))
  rw [rOf_at, blk8_at V c t d8 b x h]

/-- The body's values meet the two predicates. -/
theorem meets : Meets V (P9 V xw sq qm) (P10 V xw sq qm) := by
  refine ⟨fun c t d5 d6 d7 a b h => ?_, fun c t d5 d6 d7 d8 Y hY a l n hn hle => ?_⟩
  · rw [blk1_eq, blk2_eq, blk3_eq]
    obtain ⟨l, e⟩ := outP_at (V c main_v2_0) (V c main_v2_1) (V c main_v2_2) (blk6 V c t d6) (blk7 V c t d7) (wOf (F := Ideal) (blk5 V c t d5)) a b
    exact e.trans (pScore_blk V xw sq qm hxw hsq hqm c t d5 d6 d7 a l b h)
  · rw [blk0_eq, blk1_eq, blk2_eq, blk3_eq, blk4_eq]
    have hlt : n.val < 50000 := n.isLt
    have hN : t.val < 196 := t.isLt
    have hnat : (BitVec.ofNat 32 n.val).toNat = n.val := by rw [BitVec.toNat_ofNat]; omega
    have hint : (BitVec.ofNat 32 n.val).toInt = n.val := by rw [BitVec.toInt_eq_toNat_of_lt (by rw [hnat]; omega), hnat]
    refine (outR_at _ _ _ _ _ _ _ _ _ _ (by rw [coord]; exact hN) _ _ _).trans ?_
    rw [hn, hint, coord]
    by_cases hit : n.val / 256 = t.val
    · rw [if_pos (by omega)]
      have hc : 256 * t.val + (col (BitVec.ofNat 32 n.val)).val = n.val := by simp only [col, hnat]; omega
      refine (fScore_blk V xw sq qm hxw hsq hqm c t d5 d6 d7 d8 a _ _ (by omega)).trans ?_
      exact congrArg _ (Fin.ext hc)
    · rw [if_neg (by omega)]
      have ht : t.val ≠ 0 := by omega
      have hz : ¬ isFirst (grid1.coords t) := fun h => ht (first_zero t h)
      rw [startR_neg _ _ hz]
      exact hY ht a l n hn (by show n.val / 256 ≤ t.val - 1; omega)
end
end Cert.KernelIdeal.ScoreVal

end
-- ==== Proof.KernelIdeal.ArrVal.lean ====
module

public import Idealize.ShloMosaic.Lib.Pointwise
public import Idealize.ShloMosaic.Lib.Pipeline.ValueKit
public import Idealize.ShloMosaic.Lib.Pipeline.ArrRel
public import proofs.«01_k».proof.Proof.KernelIdeal.ScoreVal
set_option maxRecDepth 16384

/-!
# The arrays the second call leaves, entry by entry

The column blocks cover the array of primary scores; the refined scores are written back once, after the last point.
-/

@[expose] public section

noncomputable section
open Idealize.ShloMosaic Idealize.ShloMosaic.TcCoe Idealize.SL.Sem
open Idealize.ShloMosaic.Pipeline
open Cert.KernelIdeal Cert.KernelIdeal.Gen
namespace Cert.KernelIdeal.ArrVal
open Score ScorePay ScoreVal
variable (V : (c : Dev nD) → (b : Ref sig .tc) → Buf (Elt Ideal) ((c : Thread nD τ).loc b))
  (xw : Dev nD → Fin 3840 → Fin 1536 → EReal) (sq qm : Dev nD → Fin 3840 → EReal)

/-- How much of a block of primary scores lies inside the array. -/
theorem xsz9 : ∀ t : Fin cfg1.N, (∀ a, (cfg1.win 9).xsize (cfg1.grid.coords t) a = ![3840, min 256 (50000 - 256 * t.val)] a) :=
  (by decide +kernel : ∀ t : Fin grid1.N, _)
/-- The refined scores are written back after the last point. -/
theorem last10 : ∀ t : Fin cfg1.N, (cfg1.win 10).flush t = true → t.val = 195 :=
  (by decide +kernel : ∀ t : Fin grid1.N, _)

/-- The array of primary scores. -/
theorem prim_arr (c : Dev nD) (G : Buf (Elt Ideal) ((cfg1.win 9).arr.view.loc (c.tc : Thread nD τ)))
    (hG : ((Score.dat V c).toRRel Score.fgt (Score.Rl (P9 V xw sq qm c) (P10 V xw sq qm c))).ArrAt 9 cfg1.N G) (j : S3840x50000.Idx) :
    G j = primV V xw sq qm c (j 0) (j 1) := by
  obtain ⟨X, hX, hA⟩ := hG.exists_exact
  have e := hA (Function.update (fun _ _ _ => Classical.arbitrary _) 9 X) fun u _ _ => by rw [Function.update_self]
  obtain ⟨D, eG, hD⟩ : ∃ D : Dat τ (Elt Ideal) Unit ℕ (UR sig nD τ) ℕ cfg1 c, G = D.arrAt 9 cfg1.N ∧ ∀ t, D.after 9 t = X t :=
    ⟨_, e, fun t => by rw [RDat.withAfter_after, Function.update_self]⟩
  clear e hA
  rw [eG]
  refine congrFun (D.arrAt_eq_of_covers 9 (fun j : S3840x50000.Idx => primV V xw sq qm c (j 0) (j 1)) (by decide +kernel) (fun t hf y => ?_)) j
  have hL : P9 V xw sq qm c t (X t) := (Score.dat V c).toRRel_leaves (w := 9) rfl (hX t t.isLt hf)
  blk_simp
  rw [hD]
  have hb : (show Fin 256 from (cfg1.win 9).xinj (cfg1.grid.coords t) y 1).val = (y 1).val := rfl
  have hy : (y 1).val < min 256 (50000 - 256 * t.val) := lt_of_lt_of_eq (y 1).isLt (xsz9 t 1)
  refine (congrArg (X t) (eq_ix2 (n0 := 3840) (n1 := 256) _)).trans ((hL _ _ (by rw [hb]; omega)).trans ?_)
  refine congrArg₂ (primV V xw sq qm c) (Fin.ext ?_) (Fin.ext ?_)
  · blk_simp [idx1 t]
  · blk_simp [idx1 t]
    show 256 * t.val + (y 1).val = t.val * 256 + (y 1).val
    omega

/-- The array of refined scores, at the candidates in range. -/
theorem ref_arr (c : Dev nD) (G : Buf (Elt Ideal) ((cfg1.win 10).arr.view.loc (c.tc : Thread nD τ)))
    (hG : ((Score.dat V c).toRRel Score.fgt (Score.Rl (P9 V xw sq qm c) (P10 V xw sq qm c))).ArrAt 10 cfg1.N G) (j : S3840x128.Idx) (n : Fin 50000)
    (hn : (V c main_v4 : IVec S3840x128 32) j = BitVec.ofNat 32 n.val) :
    G j = fullV V xw sq qm c (j 0) n := by
  obtain ⟨X, hX, hA⟩ := hG.exists_exact
  have e := hA (Function.update (fun _ _ _ => Classical.arbitrary _) 10 X) fun u _ _ => by rw [Function.update_self]
  obtain ⟨D, eG, hD⟩ : ∃ D : Dat τ (Elt Ideal) Unit ℕ (UR sig nD τ) ℕ cfg1 c, G = D.arrAt 10 cfg1.N ∧ ∀ t, D.after 10 t = X t :=
    ⟨_, e, fun t => by rw [RDat.withAfter_after, Function.update_self]⟩
  clear e hA
  rw [eG]
  revert hn
  refine D.arrAt_forall_of_covers 10 (fun (j : S3840x128.Idx) v => (V c main_v4 : IVec S3840x128 32) j = BitVec.ofNat 32 n.val → v = fullV V xw sq qm c (j 0) n) (by decide +kernel) (fun t hf y => ?_) j
  have hL : P10 V xw sq qm c t (X t) := (Score.dat V c).toRRel_leaves (w := 10) rfl (hX t t.isLt hf)
  blk_simp
  rw [hD]
  intro hn
  have ht := last10 t hf
  refine (congrArg (X t) (eq_ix2 (n0 := 3840) (n1 := 128) _)).trans ((hL _ _ n ?_ (by have := n.isLt; omega)).trans ?_)
  · rw [← hn]
    blk_ext [idx1 t]
  · refine congrArg (fun a => fullV V xw sq qm c a n) (Fin.ext ?_)
    blk_simp [idx1 t]
end Cert.KernelIdeal.ArrVal

end
-- ==== Proof.KernelIdeal.HostVal.lean ====
module

public import Idealize.ShloMosaic.Lib.Pointwise
public import Idealize.ShloMosaic.Lib.Claim
public import proofs.«01_k».proof.Proof.KernelIdeal.Run
set_option maxRecDepth 16384

/-!
# What the host operations around the two calls compute, entry by entry
-/

@[expose] public section

noncomputable section
open Idealize.ShloMosaic Idealize.ShloMosaic.TcCoe Idealize.SL.Sem
open Cert.KernelIdeal Cert.KernelIdeal.Gen
namespace Cert.KernelIdeal.HostVal
open Run
variable (m : (ℓ : Loc nD τ sig) → Buf (Elt Ideal) ℓ)

/-- The row and the column of a flattened row number. -/
def hi (a : Fin 3840) : Fin 3 := ⟨a.val / 1280, by omega⟩
def lo (a : Fin 3840) : Fin 1280 := ⟨a.val % 1280, Nat.mod_lt _ (by decide)⟩
/-- The flattened row number. -/
def flat (p : Fin 3) (q : Fin 1280) : Fin 3840 := ⟨1280 * p.val + q.val, by omega⟩

/-- The arguments, at their shapes. -/
abbrev aX (c : Dev nD) : FVec Ideal S3x1280x1536 .bf16 := m ((c.tc : Thread nD τ).loc main_arg0)
abbrev aMu (c : Dev nD) : FVec Ideal S1536 .f32 := m ((c.tc : Thread nD τ).loc main_arg1)
abbrev aCodes (c : Dev nD) : IVec S50000x768 8 := m ((c.tc : Thread nD τ).loc main_arg2)
abbrev aBound (c : Dev nD) : FVec Ideal S50000 .bf16 := m ((c.tc : Thread nD τ).loc main_arg3)
abbrev aStep (c : Dev nD) : FVec Ideal S50000 .bf16 := m ((c.tc : Thread nD τ).loc main_arg4)
abbrev aRes (c : Dev nD) : IVec S50000x1536 8 := m ((c.tc : Thread nD τ).loc main_arg5)
abbrev aCand (c : Dev nD) : IVec S3x1280x48 32 := m ((c.tc : Thread nD τ).loc main_arg6)

theorem v0_eq (c : Dev nD) : U1 m c main_v0 = (shapeCast S3840x1536 (aX m c) shapeCasts_S3x1280x1536_S3840x1536) := by
  unfold_abbrev_sides
  after_results_simp
  try rfl
theorem v0_at (c : Dev nD) (a : Fin 3840) (k : Fin 1536) : U1 m c main_v0 (ix2 (n0 := 3840) (n1 := 1536) a k) = aX m c (ix3 (hi a) (lo a) k) := by
  rw [v0_eq]
  pointwise
  rfl

theorem v1_eq (c : Dev nD) : U1 m c main_v1 = (shapeCast S1x1536 (aMu m c) shapeCasts_S1536_S1x1536) := by
  unfold_abbrev_sides
  after_results_simp
  try rfl

theorem v4_eq (c : Dev nD) : U5 m c main_v4 = pad S3840x128 ![0, 0] ![0, 80] ![0, 0] (shapeCast S3840x48 (aCand m c) shapeCasts_S3x1280x48_S3840x48) (constantI S_ 32 4294967295#32) pads_S3840x48_S3840x128_000_0800 h_S_ := by
  show V5 m (outs m) c main_v4 = _
  rw [V5_of m (outs m) c main_v4 (by decide)]
  unfold_abbrev_sides
  after_results_simp
  rw [show V2 m (outs m) c (Proc.tc.devRef main_arg6) = aCand m c from (V2_of m (outs m) c main_arg6 (by decide)).trans (V1_of m c main_arg6 (by decide))]
  rfl

theorem v4_at (c : Dev nD) (a : Fin 3840) (l : Fin 48) :
    (U5 m c main_v4 : IVec S3840x128 32) (ix2 (n0 := 3840) (n1 := 128) a ⟨l.val, by omega⟩) = aCand m c (ix3 (hi a) (lo a) l) := by
  rw [v4_eq]
  pointwise
  rfl

/-- What the first call leaves, as the second call finds it. -/
theorem v0_5 (c : Dev nD) : U5 m c main_v0 = U1 m c main_v0 :=
  (V5_of m (outs m) c main_v0 (by decide)).trans ((V4_of m (outs m) c main_v0 (by decide)).trans ((V3_of m (outs m) c main_v0 (by decide)).trans (V2_of m (outs m) c main_v0 (by decide))))
theorem xw_5 (c : Dev nD) : U5 m c main_v2_0 = xwArr m c :=
  (V5_of m (outs m) c main_v2_0 (by decide)).trans ((V4_of m (outs m) c main_v2_0 (by decide)).trans ((V3_of m (outs m) c main_v2_0 (by decide)).trans (V2_xw m c)))
theorem sq_5 (c : Dev nD) : U5 m c main_v2_1 = sqArr m c :=
  (V5_of m (outs m) c main_v2_1 (by decide)).trans ((V4_of m (outs m) c main_v2_1 (by decide)).trans ((V3_of m (outs m) c main_v2_1 (by decide)).trans (V2_sq m c)))
theorem qmu_5 (c : Dev nD) : U5 m c main_v2_2 = qmuArr m c :=
  (V5_of m (outs m) c main_v2_2 (by decide)).trans ((V4_of m (outs m) c main_v2_2 (by decide)).trans ((V3_of m (outs m) c main_v2_2 (by decide)).trans (V2_qmu m c)))
/-- An argument, as the second call finds it. -/
theorem arg_4 (c : Dev nD) (r : Ref sig .tc) (h4 : r ∉ hostOps1_1_W) (h3 : r ∉ hostOps1_W)
    (h2 : r ∉ ([main_v2_0, main_v2_1, main_v2_2] : List (Ref sig .tc))) (h1 : r ∉ hostOps0_W) : V4 m (outs m) c r = m ((c.tc : Thread nD τ).loc r) :=
  (V4_of m (outs m) c r h4).trans ((V3_of m (outs m) c r h3).trans ((V2_of m (outs m) c r h2).trans (V1_of m c r h1)))
theorem codes_5 (c : Dev nD) : U5 m c main_arg2 = aCodes m c :=
  (V5_of m (outs m) c main_arg2 (by decide)).trans (arg_4 m c main_arg2 (by decide) (by decide) (by decide) (by decide))
theorem res_5 (c : Dev nD) : U5 m c main_arg5 = aRes m c :=
  (V5_of m (outs m) c main_arg5 (by decide)).trans (arg_4 m c main_arg5 (by decide) (by decide) (by decide) (by decide))
theorem bound_5 (c : Dev nD) : U5 m c main_v6 = shapeCast S1x50000 (extf .f32 (aBound m c) bitsLt_bf16_f32) shapeCasts_S50000_S1x50000 := by
  show StableHlo.after hostOps1_2 (V4 m (outs m) c) main_v6 = _
  have h := arg_4 m c main_arg3 (by decide) (by decide) (by decide) (by decide)
  generalize V4 m (outs m) c = W at h ⊢
  after_results_simp
  rw [h]
  rfl
theorem step_5 (c : Dev nD) : U5 m c main_v8 = shapeCast S1x50000 (extf .f32 (aStep m c) bitsLt_bf16_f32) shapeCasts_S50000_S1x50000 := by
  show StableHlo.after hostOps1_2 (V4 m (outs m) c) main_v8 = _
  have h := arg_4 m c main_arg4 (by decide) (by decide) (by decide) (by decide)
  generalize V4 m (outs m) c = W at h ⊢
  after_results_simp
  rw [h]
  rfl
theorem bound_at (c : Dev nD) (n : Fin 50000) : U5 m c main_v6 (ix2 (n0 := 1) (n1 := 50000) 0 n) = aBound m c (ix1 n) := by
  rw [bound_5]; pointwise
theorem step_at (c : Dev nD) (n : Fin 50000) : U5 m c main_v8 (ix2 (n0 := 1) (n1 := 50000) 0 n) = aStep m c (ix1 n) := by
  rw [step_5]; pointwise
theorem v1_at (c : Dev nD) (k : Fin 1536) : U1 m c main_v1 (ix2 (n0 := 1) (n1 := 1536) 0 k) = aMu m c (ix1 k) := by
  rw [v1_eq]; pointwise

/-! ## The results -/

variable (P9 : Dev nD → Fin cfg1.N → Vec Ideal S3840x256 .f32 → Prop) (P10 : Dev nD → Fin cfg1.N → Vec Ideal S3840x128 .f32 → Prop)

theorem v10_eq (c : Dev nD) (A) : W7 m P9 P10 c A main_v10 = shapeCast S3x1280x50000 (primOf m P9 P10 A : FVec Ideal S3840x50000 .f32) shapeCasts_S3840x50000_S3x1280x50000 := by
  rw [← W6_prim]
  unfold W7
  generalize W6 m P9 P10 c A = W
  after_results_simp
  rfl
theorem v12_eq (c : Dev nD) (A) : W7 m P9 P10 c A main_v12
    = shapeCast S3x1280x48 (extractStridedSlice S3840x48 ![0, 0] (refOf m P9 P10 A : FVec Ideal S3840x128 .f32) slices_S3840x128_S3840x48_0_0) shapeCasts_S3840x48_S3x1280x48 := by
  rw [← W6_ref]
  unfold W7
  generalize W6 m P9 P10 c A = W
  after_results_simp
  rfl
theorem v10_at (c : Dev nD) (A) (p : Fin 3) (q : Fin 1280) (n : Fin 50000) :
    W7 m P9 P10 c A main_v10 (ix3 (n0 := 3) (n1 := 1280) (n2 := 50000) p q n) = primOf m P9 P10 A (ix2 (n0 := 3840) (n1 := 50000) (flat p q) n) := by
  rw [v10_eq]
  refine congrArg (primOf m P9 P10 A) (Shape.reshapeEquiv_eq_of_vals _ _ _ _ _ (rowMajor_val2 _ 50000 rfl) (rowMajor_val3 _ 64000000 50000 rfl rfl) ?_)
  show (1280 * p.val + q.val) * 50000 + n.val = p.val * 64000000 + q.val * 50000 + n.val
  omega
theorem v12_at (c : Dev nD) (A) (p : Fin 3) (q : Fin 1280) (l : Fin 48) :
    W7 m P9 P10 c A main_v12 (ix3 (n0 := 3) (n1 := 1280) (n2 := 48) p q l) = refOf m P9 P10 A (ix2 (n0 := 3840) (n1 := 128) (flat p q) ⟨l.val, by omega⟩) := by
  rw [v12_eq]
  pointwise
  exact congrArg (fun z => refOf m P9 P10 A (ix2 (n0 := 3840) (n1 := 128) z ⟨l.val, by omega⟩)) (Fin.ext (by simp only [flat]; omega))
end Cert.KernelIdeal.HostVal

end
-- ==== Proof.KernelIdeal.Result.lean ====
module

public import proofs.«01_k».proof.Proof.KernelIdeal.PrepVal
public import proofs.«01_k».proof.Proof.KernelIdeal.ArrVal
public import proofs.«01_k».proof.Proof.KernelIdeal.HostVal
set_option maxRecDepth 16384

/-!
# The kernel's two results, entry by entry, as functions of its arguments
-/

@[expose] public section

noncomputable section
open Idealize.ShloMosaic Idealize.ShloMosaic.TcCoe Idealize.SL.Sem
open Cert.KernelIdeal Cert.KernelIdeal.Gen
namespace Cert.KernelIdeal.Result
open Run HostVal Score ScorePay
open _root_.Cert.KernelIdeal.ScoreVal (primG fullG primV fullV)
open _root_.Cert.KernelIdeal.PrepVal (srcCol)
variable (m : (ℓ : Loc nD τ sig) → Buf (Elt Ideal) ℓ)

/-- A row of the queries, its columns in the order of the decoded codes; its sum; its product with the mean vector. -/
def xwOf (c : Dev nD) (a : Fin 3840) (x : Fin 1536) : EReal := aX m c (ix3 (hi a) (lo a) (srcCol x))
def sqOf (c : Dev nD) (a : Fin 3840) : EReal := ∑ l : Fin 1536, aX m c (ix3 (hi a) (lo a) l)
def qmOf (c : Dev nD) (a : Fin 3840) : EReal := ∑ l : Fin 1536, aX m c (ix3 (hi a) (lo a) l) * aMu m c (ix1 l)

theorem xw_at (c : Dev nD) (a : Fin 3840) (x : Fin 1536) : U5 m c main_v2_0 (ix2 (n0 := 3840) (n1 := 1536) a x) = xwOf m c a x := by
  rw [xw_5]
  unfold xwArr
  rw [PrepVal.xw_eq]
  exact v0_at m c a (srcCol x)
theorem sq_at (c : Dev nD) (a : Fin 3840) (l : Fin 128) : U5 m c main_v2_1 (ix2 (n0 := 3840) (n1 := 128) a l) = sqOf m c a := by
  rw [sq_5]
  unfold sqArr
  rw [PrepVal.sq_eq]
  have h : ∀ l : Fin 1536, (show EReal from U1 m c main_v0 (ix2 (n0 := 3840) (n1 := 1536) a l)) = aX m c (ix3 (hi a) (lo a) l) := v0_at m c a
  exact Finset.sum_congr (M := EReal) rfl fun l _ => h l
theorem qm_at (c : Dev nD) (a : Fin 3840) (l : Fin 128) : U5 m c main_v2_2 (ix2 (n0 := 3840) (n1 := 128) a l) = qmOf m c a := by
  rw [qmu_5]
  unfold qmuArr
  rw [PrepVal.qmu_eq]
  exact Finset.sum_congr (M := EReal) rfl fun l _ => congrArg₂ (fun u v : EReal => u * v) (v0_at m c a l) (v1_at m c l)

/-- What each grid point of the second call leaves. -/
abbrev R9 := ScoreVal.P9 (U5 m) (xwOf m) (sqOf m) (qmOf m)
abbrev R10 := ScoreVal.P10 (U5 m) (xwOf m) (sqOf m) (qmOf m)
theorem meets : Meets (U5 m) (R9 m) (R10 m) :=
  ScoreVal.meets (U5 m) (xwOf m) (sqOf m) (qmOf m) (xw_at m) (sq_at m) (qm_at m)

theorem bound_fun (c : Dev nD) : (fun n => U5 m c main_v6 (ix2 (n0 := 1) (n1 := 50000) 0 n)) = fun n => aBound m c (ix1 n) := funext (bound_at m c)
theorem step_fun (c : Dev nD) : (fun n => U5 m c main_v8 (ix2 (n0 := 1) (n1 := 50000) 0 n)) = fun n => aStep m c (ix1 n) := funext (step_at m c)
theorem v0_fun (c : Dev nD) : (fun (a : Fin 3840) (x : Fin 1536) => U5 m c main_v0 (ix2 (n0 := 3840) (n1 := 1536) a x)) = fun a x => aX m c (ix3 (hi a) (lo a) x) := by
  funext a x
  rw [v0_5]
  exact v0_at m c a x

/-- An entry of the first result. -/
theorem prim_entry (c : Dev nD) (A) (p : Fin 3) (q : Fin 1280) (n : Fin 50000) :
    W7 m (R9 m) (R10 m) c A main_v10 (ix3 (n0 := 3) (n1 := 1280) (n2 := 50000) p q n)
      = primG (xwOf m c) (sqOf m c) (qmOf m c) (aCodes m c) (fun n => aBound m c (ix1 n)) (fun n => aStep m c (ix1 n)) (flat p q) n := by
  refine (v10_at m _ _ c A p q n).trans ((ArrVal.prim_arr (U5 m) (xwOf m) (sqOf m) (qmOf m) c (A.1 9) (A.2 9) _).trans ?_)
  show primV (U5 m) (xwOf m) (sqOf m) (qmOf m) c (flat p q) n = _
  unfold primV
  rw [bound_fun, step_fun, codes_5]

/-- An entry of the second result, where the candidate's id is in range. -/
theorem full_entry (c : Dev nD) (A) (p : Fin 3) (q : Fin 1280) (l : Fin 48) (n : Fin 50000) (hn : aCand m c (ix3 p q l) = BitVec.ofNat 32 n.val) :
    W7 m (R9 m) (R10 m) c A main_v12 (ix3 (n0 := 3) (n1 := 1280) (n2 := 48) p q l)
      = fullG (fun a x => aX m c (ix3 (hi a) (lo a) x)) (xwOf m c) (sqOf m c) (qmOf m c) (aCodes m c) (fun n => aBound m c (ix1 n)) (fun n => aStep m c (ix1 n))
          (aRes m c) (flat p q) n := by
  have hhi : hi (flat p q) = p := Fin.ext (by simp only [hi, flat]; omega)
  have hlo : lo (flat p q) = q := Fin.ext (by simp only [lo, flat]; omega)
  refine (v12_at m _ _ c A p q l).trans ((ArrVal.ref_arr (U5 m) (xwOf m) (sqOf m) (qmOf m) c (A.1 10) (A.2 10) _ n ?_).trans ?_)
  · rw [v4_at, hhi, hlo, hn]
  · show fullV (U5 m) (xwOf m) (sqOf m) (qmOf m) c (flat p q) n = _
    unfold fullV
    rw [bound_fun, step_fun, v0_fun, codes_5, res_5]

end Cert.KernelIdeal.Result

end
-- ==== Proof.RefVal.lean ====
/-
  The reference's two results, read at an index, over the ideal values.
-/
module

public import proofs.«01_k».proof.Proof.Gen.ReferenceIdeal
public import proofs.«01_k».proof.Proof.Gen.ReferenceIdeal.Run
public import proofs.«01_k».proof.Proof.KernelIdeal.ScorePay
public import Idealize.ShloMosaic.Lib.Pointwise

@[expose] public section

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.KernelIdeal.ScorePay (nib0 nib1 byte)

variable (x : FVec Ideal S3x1280x1536 .bf16) (mu : FVec Ideal S1536 .f32) (codes : IVec S50000x768 8) (bound step : FVec Ideal S50000 .bf16) (res : IVec S50000x1536 8) (cand w : IVec S3x1280x48 32)

/-- The first result, as a term of the arguments. -/
def prim : FVec Ideal S3x1280x50000 .f32 :=
  addf (addf (broadcastInDim S3x1280x50000 ![0, 1, 2] bcast_S3x1280x1_S3x1280x50000_0_1_2 (broadcastInDim S3x1280x1 ![0, 1] bcast_S3x1280_S3x1280x1_0_1 (Host.dotGeneral dot_S3x1280x1536_S1536_S3x1280_2_0_01_n_n_n (some .fp32) (extf .f32 x bitsLt_bf16_f32) mu))) (mulf (broadcastInDim S3x1280x50000 ![0, 1, 2] bcast_S1x1x50000_S3x1280x50000_0_1_2 (broadcastInDim S1x1x50000 ![2] bcast_S50000_S1x1x50000_2 (extf .f32 bound bitsLt_bf16_f32))) (broadcastInDim S3x1280x50000 ![0, 1, 2] bcast_S3x1280x1_S3x1280x50000_0_1_2 (broadcastInDim S3x1280x1 ![0, 1] bcast_S3x1280_S3x1280x1_0_1 (Host.reduceAdd (extf .f32 x bitsLt_bf16_f32) (constant S_ .f32 0x00000000#32) reducesTo_S3x1280x1536_S3x1280_d2 h_S_))))) (mulf (broadcastInDim S3x1280x50000 ![0, 1, 2] bcast_S1x1x50000_S3x1280x50000_0_1_2 (broadcastInDim S1x1x50000 ![2] bcast_S50000_S1x1x50000_2 (extf .f32 step bitsLt_bf16_f32))) (addf (Host.dotGeneral dot_S3x1280x768_S50000x768_S3x1280x50000_2_1_01_0_n_n none (Host.slice S3x1280x768 ![0, 0, 0] ![1, 1, 2] x slicesBy_S3x1280x1536_S3x1280x768_0s1_0s1_0s2) (sitofp .bf16 (andi (extui 32 codes natLt_8_32) (broadcastInDim S50000x768 ![] bcast_S_S50000x768 (constantI S_ 32 15#32))))) (Host.dotGeneral dot_S3x1280x768_S50000x768_S3x1280x50000_2_1_01_0_n_n none (Host.slice S3x1280x768 ![0, 0, 1] ![1, 1, 2] x slicesBy_S3x1280x1536_S3x1280x768_0s1_0s1_1s2) (sitofp .bf16 (Host.shrsi (extui 32 codes natLt_8_32) (broadcastInDim S50000x768 ![] bcast_S_S50000x768 (constantI S_ 32 4#32)))))))

/-- The candidate ids, a negative one counted from the end. -/
def wrap : IVec S3x1280x48 32 :=
  select (cmpi .slt cand (broadcastInDim S3x1280x48 ![] bcast_S_S3x1280x48 (constantI S_ 32 0#32))) (addi cand (broadcastInDim S3x1280x48 ![] bcast_S_S3x1280x48 (constantI S_ 32 50000#32))) cand

/-- The second result, as a term of the arguments and of the wrapped candidate ids `w`. -/
def fullW : FVec Ideal S3x1280x48 .f32 :=
  addf (select (Host.reduce IntOp.andi (andi (cmpi .sge (shapeCast S3x1280x48x1 w shapeCasts_S3x1280x48_S3x1280x48x1) (broadcastInDim S3x1280x48x1 ![] bcast_S_S3x1280x48x1 (constantI S_ 32 0#32))) (cmpi .sle (shapeCast S3x1280x48x1 w shapeCasts_S3x1280x48_S3x1280x48x1) (broadcastInDim S3x1280x48x1 ![0, 1, 2, 3] bcast_S1x1x1x1_S3x1280x48x1_0_1_2_3 (broadcastInDim S1x1x1x1 ![3] bcast_S1_S1x1x1x1_3 (constantI S1 32 49999#32))))) (constantI S_ 1 1#1) reducesTo_S3x1280x48x1_S3x1280x48_d3 h_S_) (Host.gather gather_S3x1280x50000_S3x1280x48x1_S3x1280x48_n_2_01_01_2_3_111 (prim x mu codes bound step) (shapeCast S3x1280x48x1 w shapeCasts_S3x1280x48_S3x1280x48x1)) (broadcastInDim S3x1280x48 ![] bcast_S_S3x1280x48 (constant S_ .f32 0x7FC00000#32))) (mulf (Host.divf (Host.gather gather_S50000_S3x1280x48x1_S3x1280x48_n_0_n_n_0_3_1 (extf .f32 step bitsLt_bf16_f32) (broadcastInDim S3x1280x48x1 ![0, 1, 2] bcast_S3x1280x48_S3x1280x48x1_0_1_2 w)) (broadcastInDim S3x1280x48 ![] bcast_S_S3x1280x48 (constant S_ .f32 0x43800000#32))) (subf (Host.dotGeneral dot_S3x1280x1536_S3x1280x48x1536_S3x1280x48_2_3_n_2_01_01 none x (sitofp .bf16 (extui 32 (Host.gather gather_S50000x1536_S3x1280x48x1_S3x1280x48x1536_3_0_n_n_0_3_11536 res (broadcastInDim S3x1280x48x1 ![0, 1, 2] bcast_S3x1280x48_S3x1280x48x1_0_1_2 w)) natLt_8_32))) (broadcastInDim S3x1280x48 ![0, 1, 2] bcast_S3x1280x1_S3x1280x48_0_1_2 (mulf (broadcastInDim S3x1280x1 ![] bcast_S_S3x1280x1 (constant S_ .f32 0x43000000#32)) (broadcastInDim S3x1280x1 ![0, 1] bcast_S3x1280_S3x1280x1_0_1 (Host.reduceAdd (extf .f32 x bitsLt_bf16_f32) (constant S_ .f32 0x00000000#32) reducesTo_S3x1280x1536_S3x1280_d2 h_S_))))))

theorem prim_at (p : Fin 3) (q : Fin 1280) (n : Fin 50000) :
    prim x mu codes bound step (ix3 p q n)
      = (∑ l : Fin 1536, x (ix3 p q l) * mu (ix1 l)) + bound (ix1 n) * (∑ l : Fin 1536, x (ix3 p q l))
        + step (ix1 n) * ((∑ y : Fin 768, x (ix3 p q ⟨2 * y.val, by omega⟩) * nib0 (codes (ix2 n y)))
          + ∑ y : Fin 768, x (ix3 p q ⟨2 * y.val + 1, by omega⟩) * nib1 (codes (ix2 n y))) := by
  pointwise [prim]
  simp only [Nat.add_comm 1 (2 * _)]
  rfl

/-- An id in range, read as a signed number. -/
theorem toInt_id (n : Fin 50000) : (BitVec.ofNat 32 n.val).toInt = (n.val : ℤ) := by
  have := n.isLt
  rw [BitVec.toInt_eq_toNat_of_lt (by rw [BitVec.toNat_ofNat, Nat.mod_eq_of_lt (by omega)]; omega), BitVec.toNat_ofNat, Nat.mod_eq_of_lt (by omega)]
theorem slt_zero (n : Fin 50000) : (BitVec.ofNat 32 n.val).slt 0#32 = false := by
  rw [BitVec.slt, toInt_id]
  simp
theorem zero_sle (n : Fin 50000) : (0#32).sle (BitVec.ofNat 32 n.val) = true := by
  rw [BitVec.sle, toInt_id]
  simp
theorem sle_last (n : Fin 50000) : (BitVec.ofNat 32 n.val).sle 49999#32 = true := by
  rw [BitVec.sle, toInt_id]
  have := n.isLt
  have h : (49999#32 : BitVec 32).toInt = 49999 := by decide
  rw [h]
  simp only [decide_eq_true_eq]
  omega
/-- The clamped start of a gather at an id in range. -/
theorem clamp_id (n : Fin 50000) : min (BitVec.ofNat 32 n.val).toInt.toNat 49999 = n.val := by
  rw [toInt_id]
  have := n.isLt
  omega

section Gathers
variable {α : Type} (idx : IVec S3x1280x48x1 32) (p : Fin 3) (q : Fin 1280) (l : Fin 48) (n : Fin 50000)
  (h : idx (ix4 (n0 := 3) (n1 := 1280) (n2 := 48) (n3 := 1) p q l 0) = BitVec.ofNat 32 n.val)
include h

/-- A vector gathered at an id in range. -/
theorem gather_vec (x : S50000.Idx → α) : Host.gather gather_S50000_S3x1280x48x1_S3x1280x48_n_0_n_n_0_3_1 x idx (ix3 p q l) = x (ix1 n) := by
  unfold Host.gather
  congr 1
  funext a
  obtain rfl : a = 0 := Subsingleton.elim _ _
  refine Fin.ext ?_
  generalize hg : gather_S50000_S3x1280x48x1_S3x1280x48_n_0_n_n_0_3_1 = g
  show g.start (ix3 p q l) idx 0 + g.batchCoord (ix3 p q l) 0 + g.offCoord (ix3 p q l) 0 = n.val
  subst hg
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S50000_S3x1280x48x1_S3x1280x48_n_0_n_n_0_3_1.startIndexMap from List.mem_singleton.mpr rfl)]
  refine Eq.trans (congrArg (fun z : BitVec 32 => min z.toInt.toNat 49999) ((congrArg idx ?_).trans h)) (clamp_id n)
  funext b
  refine Fin.ext ?_
  match b with
  | ⟨0, _⟩ => rfl
  | ⟨1, _⟩ => rfl
  | ⟨2, _⟩ => rfl
  | ⟨3, _⟩ => rfl

/-- A row of a table gathered at an id in range. -/
theorem gather_row (x : S50000x1536.Idx → α) (k : Fin 1536) :
    Host.gather gather_S50000x1536_S3x1280x48x1_S3x1280x48x1536_3_0_n_n_0_3_11536 x idx (ix4 p q l k) = x (ix2 n k) := by
  unfold Host.gather
  congr 1
  funext a
  refine Fin.ext ?_
  generalize hg : gather_S50000x1536_S3x1280x48x1_S3x1280x48x1536_3_0_n_n_0_3_11536 = g
  show g.start (ix4 p q l k) idx a + g.batchCoord (ix4 p q l k) a + g.offCoord (ix4 p q l k) a = _
  subst hg
  rw [GatherDims.batchCoord_eq_zero _ _ _ List.not_mem_nil]
  rcases (by match a with
    | ⟨0, _⟩ => exact Or.inl rfl
    | ⟨1, _⟩ => exact Or.inr rfl : a = (0 : Fin 2) ∨ a = (1 : Fin 2)) with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x1536_S3x1280x48x1_S3x1280x48x1536_3_0_n_n_0_3_11536.startIndexMap from List.mem_singleton.mpr rfl)]
    refine Eq.trans (congrArg (fun z : BitVec 32 => min z.toInt.toNat 49999) ((congrArg idx ?_).trans h)) (clamp_id n)
    funext b
    refine Fin.ext ?_
    match b with
    | ⟨0, _⟩ => rfl
    | ⟨1, _⟩ => rfl
    | ⟨2, _⟩ => rfl
    | ⟨3, _⟩ => rfl
  · unfold GatherDims.start
    rw [dif_neg (show (1 : Fin 2) ∉ gather_S50000x1536_S3x1280x48x1_S3x1280x48x1536_3_0_n_n_0_3_11536.startIndexMap from (by decide : (1 : Fin 2) ∉ ([0] : List (Fin 2))))]
    unfold GatherDims.offCoord
    rw [dif_pos (show (1 : Fin 2) ∈ gather_S50000x1536_S3x1280x48x1_S3x1280x48x1536_3_0_n_n_0_3_11536.sKept from (GatherDims.mem_sKept _ _).mpr ⟨show (1 : Fin 2) ∉ ([0] : List (Fin 2)) by decide, List.not_mem_nil⟩)]
    simp only [Nat.zero_add]
    rfl

/-- One entry per row of an array gathered at an id in range. -/
theorem gather_entry (x : S3x1280x50000.Idx → α) :
    Host.gather gather_S3x1280x50000_S3x1280x48x1_S3x1280x48_n_2_01_01_2_3_111 x idx (ix3 p q l) = x (ix3 p q n) := by
  unfold Host.gather
  congr 1
  funext a
  refine Fin.ext ?_
  generalize hg : gather_S3x1280x50000_S3x1280x48x1_S3x1280x48_n_2_01_01_2_3_111 = g
  show g.start (ix3 p q l) idx a + g.batchCoord (ix3 p q l) a + g.offCoord (ix3 p q l) a = _
  subst hg
  rcases (by match a with
    | ⟨0, _⟩ => exact Or.inl rfl
    | ⟨1, _⟩ => exact Or.inr (Or.inl rfl)
    | ⟨2, _⟩ => exact Or.inr (Or.inr rfl) : a = (0 : Fin 3) ∨ a = (1 : Fin 3) ∨ a = (2 : Fin 3)) with rfl | rfl | rfl
  · have hb : (0 : Fin 3) ∈ gather_S3x1280x50000_S3x1280x48x1_S3x1280x48_n_2_01_01_2_3_111.operandBatchingDims := (by decide : (_ : Fin 3) ∈ ([0, 1] : List (Fin 3)))
    rw [GatherDims.start_batching _ _ _ _ hb, GatherDims.offCoord_eq_zero _ _ _ (fun h => ((GatherDims.mem_sKept _ _).mp h).2 hb)]
    simp only [Nat.zero_add, Nat.add_zero]
    unfold GatherDims.batchCoord
    rw [dif_pos hb]
    rfl
  · have hb : (1 : Fin 3) ∈ gather_S3x1280x50000_S3x1280x48x1_S3x1280x48_n_2_01_01_2_3_111.operandBatchingDims := (by decide : (_ : Fin 3) ∈ ([0, 1] : List (Fin 3)))
    rw [GatherDims.start_batching _ _ _ _ hb, GatherDims.offCoord_eq_zero _ _ _ (fun h => ((GatherDims.mem_sKept _ _).mp h).2 hb)]
    simp only [Nat.zero_add, Nat.add_zero]
    unfold GatherDims.batchCoord
    rw [dif_pos hb]
    rfl
  · rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S3x1280x50000_S3x1280x48x1_S3x1280x48_n_2_01_01_2_3_111.startIndexMap from List.mem_singleton.mpr rfl)]
    refine Eq.trans (congrArg (fun z : BitVec 32 => min z.toInt.toNat 49999) ((congrArg idx ?_).trans h)) (clamp_id n)
    funext b
    refine Fin.ext ?_
    match b with
    | ⟨0, _⟩ => rfl
    | ⟨1, _⟩ => rfl
    | ⟨2, _⟩ => rfl
    | ⟨3, _⟩ => rfl
end Gathers

theorem wrap_eq (h : ∀ i, ∃ n : Fin 50000, cand i = BitVec.ofNat 32 n.val) : wrap cand = cand := by
  funext i
  obtain ⟨n, hn⟩ := h i
  unfold wrap
  pointwise
  have hc : IntOp.cmpi CmpIPredicate.slt (cand i) 0#32 = 0#1 := by
    rw [hn]
    show BitVec.ofBool (BitVec.slt _ _) = _
    rw [slt_zero n]
    rfl
  rw [hc]
  rfl

theorem fullW_at (p : Fin 3) (q : Fin 1280) (l : Fin 48) (n : Fin 50000) (hn : w (ix3 p q l) = BitVec.ofNat 32 n.val) :
    fullW x mu codes bound step res w (ix3 p q l)
      = prim x mu codes bound step (ix3 p q n)
        + Ideal.div (step (ix1 n)) (Ideal.ofBits .f32 0x43800000#32)
          * ((∑ k : Fin 1536, x (ix3 p q k) * byte (res (ix2 n k))) - Ideal.ofBits .f32 0x43000000#32 * ∑ k : Fin 1536, x (ix3 p q k)) := by
  unfold fullW
  generalize prim x mu codes bound step = P
  pointwise
  have h1 : shapeCast S3x1280x48x1 w shapeCasts_S3x1280x48_S3x1280x48x1 (ix4 (n0 := 3) (n1 := 1280) (n2 := 48) (n3 := 1) p q l 0) = BitVec.ofNat 32 n.val := by
    pointwise
    exact hn
  have h2 : broadcastInDim S3x1280x48x1 ![0, 1, 2] bcast_S3x1280x48_S3x1280x48x1_0_1_2 w (ix4 (n0 := 3) (n1 := 1280) (n2 := 48) (n3 := 1) p q l 0) = BitVec.ofNat 32 n.val := by
    pointwise
    exact hn
  rw [gather_entry _ p q l n h1, gather_vec _ p q l n h2, hn]
  have hm : (IntOp.andi (IntOp.cmpi CmpIPredicate.sge (BitVec.ofNat 32 n.val) 0#32) (IntOp.cmpi CmpIPredicate.sle (BitVec.ofNat 32 n.val) 49999#32) : BitVec 1) = 1#1 := by
    show IntOp.andi (BitVec.ofBool (BitVec.sle _ _)) (BitVec.ofBool (BitVec.sle _ _)) = _
    rw [zero_sle, sle_last]
    rfl
  simp only [hm]
  rw [show Finset.fold (IntOp.andi (w := 1)) (1#1) (fun _ : Fin 1 => (1#1 : BitVec 1)) Finset.univ = 1#1 from by decide]
  simp only [gather_row _ p q l n h2]
  rfl

end Cert.ReferenceIdeal.RefVal

end
-- ==== Proof.Sums.lean ====
/-
  Two facts of arithmetic that the comparison of the results takes: the kernel's sum over the decoded codes, tile by
  tile of 256 columns, is the reference's two sums, over the low and over the high halves of the bytes; and to multiply
  by the constant 1/256 is to divide by 256.
-/
module

public import proofs.«01_k».proof.Proof.KernelIdeal.PrepVal
public import proofs.«01_k».proof.Proof.KernelIdeal.ScorePay
public import Idealize.ShloMosaic.Lib.IdealHost

@[expose] public section

noncomputable section

namespace Cert.Sums

open Idealize.ShloMosaic
open Cert.KernelIdeal.ScorePay (nib0 nib1 byteCol)
open Cert.KernelIdeal.PrepVal (srcCol)
open Cert.KernelIdeal.PrepPay (src)

/-- The sum over the decoded codes is the two sums over the halves of the bytes. -/
theorem decode_sum (f : Fin 1536 → EReal) (c : Fin 768 → BitVec 8) :
    (∑ x : Fin 1536, f (srcCol x) * (if x.val % 256 < 128 then nib0 (c (byteCol x)) else nib1 (c (byteCol x))))
      = (∑ y : Fin 768, f ⟨2 * y.val, by omega⟩ * nib0 (c y)) + ∑ y : Fin 768, f ⟨2 * y.val + 1, by omega⟩ * nib1 (c y) := by
  rw [Fin.sum_univ_tiles 6 256 rfl, Fin.sum_univ_tiles 6 128 rfl (fun y : Fin 768 => f ⟨2 * y.val, by omega⟩ * nib0 (c y)),
    Fin.sum_univ_tiles 6 128 rfl (fun y : Fin 768 => f ⟨2 * y.val + 1, by omega⟩ * nib1 (c y)), ← Finset.sum_add_distrib]
  refine Finset.sum_congr rfl fun j _ => ?_
  rw [Fin.sum_univ_two_halves 128 128 rfl]
  congr 1
  · refine Finset.sum_congr rfl fun t _ => ?_
    have hj := j.isLt; have ht := t.isLt
    have h1 : (j.val * 256 + t.val) % 256 = t.val := by omega
    have h2 : (j.val * 256 + t.val) / 256 = j.val := by omega
    rw [if_pos (by show (j.val * 256 + t.val) % 256 < 128; omega)]
    refine congrArg₂ (fun u v : EReal => u * v) (congrArg f (Fin.ext ?_)) (congrArg (fun z => nib0 (c z)) (Fin.ext ?_))
    · simp only [srcCol, src, h1, h2, if_pos ht]; omega
    · simp only [byteCol, h2]; omega
  · refine Finset.sum_congr rfl fun t _ => ?_
    have hj := j.isLt; have ht := t.isLt
    have h1 : (j.val * 256 + (128 + t.val)) % 256 = 128 + t.val := by omega
    have h2 : (j.val * 256 + (128 + t.val)) / 256 = j.val := by omega
    rw [if_neg (by show ¬ (j.val * 256 + (128 + t.val)) % 256 < 128; omega)]
    refine congrArg₂ (fun u v : EReal => u * v) (congrArg f (Fin.ext ?_)) (congrArg (fun z => nib1 (c z)) (Fin.ext ?_))
    · simp only [srcCol, src, h1, h2, if_neg (show ¬ 128 + t.val < 128 by omega)]; omega
    · simp only [byteCol, h2]; omega

/-- The constants 256 and 1/256. -/
theorem c256 : Ideal.ofBits .f32 0x43800000#32 = ((256 : ℝ) : EReal) := by
  simp [Ideal.ofBits, Ideal.ieee, -EReal.coe_mul]; norm_num
theorem c256inv : Ideal.ofBits .f32 998244352#32 = ((1 / 256 : ℝ) : EReal) := by
  simp [Ideal.ofBits, Ideal.ieee, -EReal.coe_mul]; norm_num
/-- To divide by 256 is to multiply by 1/256. -/
theorem div256 (x : EReal) : Ideal.div x (Ideal.ofBits .f32 0x43800000#32) = x * Ideal.ofBits .f32 998244352#32 := by
  rw [c256, c256inv, Ideal.div_coe (by norm_num)]

end Cert.Sums

end
-- ==== Proof.Equal.lean ====
/-
  The kernel's two results are the reference's, on memories whose candidate ids lie in range.
-/
module

public import proofs.«01_k».proof.Defs
public import proofs.«01_k».proof.Proof.Gen.Pre_ids_in_range
public import proofs.«01_k».proof.Proof.KernelIdeal.Result
public import proofs.«01_k».proof.Proof.RefVal
public import proofs.«01_k».proof.Proof.Sums

@[expose] public section

set_option maxRecDepth 16384

noncomputable section

namespace Cert.Equal

open Idealize.ShloMosaic Idealize.ShloMosaic.TcCoe Idealize.SL.Sem
open Cert.KernelIdeal (nD τ sig main_v10 main_v12)
open Cert.KernelIdeal.Run (W7 LeftAt)
open Cert.KernelIdeal.HostVal (hi lo flat aX aMu aCodes aBound aStep aRes aCand)
open Cert.KernelIdeal.Result (R9 R10 xwOf sqOf qmOf prim_entry full_entry)
open Cert.KernelIdeal.ScoreVal (primG fullG)

variable (m : (ℓ : Loc nD τ sig) → Buf (Elt Ideal) ℓ)

/-- The reference's results, at the kernel's arguments. -/
def prim (c : Dev nD) : FVec Ideal ⟨3, ![3, 1280, 50000]⟩ .f32 :=
  Cert.ReferenceIdeal.RefVal.prim (aX m c) (aMu m c) (aCodes m c) (aBound m c) (aStep m c)
def full (c : Dev nD) : FVec Ideal ⟨3, ![3, 1280, 48]⟩ .f32 :=
  Cert.ReferenceIdeal.RefVal.fullW (aX m c) (aMu m c) (aCodes m c) (aBound m c) (aStep m c) (aRes m c) (Cert.ReferenceIdeal.RefVal.wrap (aCand m c))

/-- The precondition: every candidate id is one of the 50000. -/
theorem ids (h : Cert.Pre_KernelIdeal_ids_in_range (hPre_ids_in_range := Cert.Pre_ids_in_range.Gen.facts) m) (c : Dev nD) (i) :
    ∃ n : Fin 50000, aCand m c i = BitVec.ofNat 32 n.val := by
  have e := congrFun (h c) i
  change IntOp.andi (BitVec.ofBool ((0#32).sle (aCand m c i))) (BitVec.ofBool ((aCand m c i).slt 50000#32)) = 1#1 at e
  generalize aCand m c i = v at e ⊢
  have h0 : (0#32).sle v = true := by
    by_contra hc
    rw [Bool.not_eq_true] at hc
    rw [hc] at e
    revert e
    cases v.slt 50000#32 <;> decide
  have h1 : v.slt 50000#32 = true := by
    by_contra hc
    rw [Bool.not_eq_true] at hc
    rw [hc] at e
    revert e
    cases (0#32).sle v <;> decide
  rw [BitVec.sle, decide_eq_true_eq] at h0
  rw [BitVec.slt, decide_eq_true_eq] at h1
  have z : (0#32 : BitVec 32).toInt = 0 := by decide
  have t : (50000#32 : BitVec 32).toInt = 50000 := by decide
  rw [z] at h0
  rw [t] at h1
  have hv : v.toInt = v.toNat := by
    rw [BitVec.toInt_eq_toNat_cond] at h0 ⊢
    have := v.isLt
    split_ifs at h0 ⊢ with hs <;> omega
  refine ⟨⟨v.toNat, by omega⟩, ?_⟩
  rw [BitVec.ofNat_toNat, BitVec.setWidth_eq]

theorem hi_flat (p : Fin 3) (q : Fin 1280) : hi (flat p q) = p := Fin.ext (by simp only [hi, flat]; omega)
theorem lo_flat (p : Fin 3) (q : Fin 1280) : lo (flat p q) = q := Fin.ext (by simp only [lo, flat]; omega)

/-- An entry of the primary scores: the kernel's formula is the reference's. -/
theorem prim_formula (c : Dev nD) (p : Fin 3) (q : Fin 1280) (n : Fin 50000) :
    primG (xwOf m c) (sqOf m c) (qmOf m c) (aCodes m c) (fun n => aBound m c (ix1 n)) (fun n => aStep m c (ix1 n)) (flat p q) n = prim m c (ix3 p q n) := by
  refine Eq.trans ?_ (Cert.ReferenceIdeal.RefVal.prim_at _ _ _ _ _ p q n).symm
  unfold primG xwOf sqOf qmOf
  rw [hi_flat, lo_flat]
  exact congrArg (fun z : EReal => _ + aStep m c (ix1 n) * z) (Cert.Sums.decode_sum (fun k => aX m c (ix3 p q k)) (fun y => aCodes m c (ix2 n y)))

/-- The first result. -/
theorem prim_eq (c : Dev nD) (A) : W7 m (R9 m) (R10 m) c A main_v10 = prim m c := by
  funext j
  have hj := eq_ix3 (n0 := 3) (n1 := 1280) (n2 := 50000) j
  rw [hj]
  exact (prim_entry m c A _ _ _).trans (prim_formula m c _ _ _)

/-- An entry of the second result. -/
theorem full_at (h : ∀ c i, ∃ n : Fin 50000, aCand m c i = BitVec.ofNat 32 n.val) (c : Dev nD) (A) (p : Fin 3) (q : Fin 1280) (l : Fin 48) :
    W7 m (R9 m) (R10 m) c A main_v12 (ix3 (n0 := 3) (n1 := 1280) (n2 := 48) p q l) = full m c (ix3 p q l) := by
  obtain ⟨n, hn⟩ := h c (ix3 p q l)
  refine (full_entry m c A p q l n hn).trans ?_
  unfold full
  rw [Cert.ReferenceIdeal.RefVal.wrap_eq _ (h c)]
  refine Eq.trans ?_ (Cert.ReferenceIdeal.RefVal.fullW_at _ _ _ _ _ _ _ p q l n hn).symm
  rw [Cert.Sums.div256]
  unfold fullG
  rw [prim_formula]
  unfold sqOf
  simp only [hi_flat, lo_flat]
  rfl

/-- The second result. -/
theorem full_eq (h : ∀ c i, ∃ n : Fin 50000, aCand m c i = BitVec.ofNat 32 n.val) (c : Dev nD) (A) : W7 m (R9 m) (R10 m) c A main_v12 = full m c := by
  funext j
  have hj := eq_ix3 (n0 := 3) (n1 := 1280) (n2 := 48) j
  rw [hj]
  exact full_at m h c A _ _ _

end Cert.Equal

end
-- ==== Proof.lean ====
/-
  The certificate's proof, assembled: the kernel's run (at machine words and at exact numbers), the reference's run,
  and the equality of their results.
-/
module

public import proofs.«01_k».proof.Defs
public import proofs.«01_k».proof.Proof.Kernel.Run
public import proofs.«01_k».proof.Proof.KernelIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Equal
public import Idealize.ShloMosaic.Adequacy
public import Idealize.ShloMosaic.Init

@[expose] public section

noncomputable section

namespace Cert.Proof

open Idealize.ShloMosaic Idealize.SL.Sem

/-- The reference declares no semaphore. -/
theorem ref_no_sem : ∀ sm : SemLoc Cert.ReferenceIdeal.sig, False := by decide

/-- The reference's frame, from its run. -/
theorem ref_frame : Cert.quiescent_ReferenceIdeal (hReferenceIdeal := Cert.ReferenceIdeal.Gen.facts) := fun m ρ _ =>
  (θ_run Cert.ReferenceIdeal.defs _ _).mono (fun _ h => ⟨fun c => (h c).2.2, funext fun g => (ref_no_sem g.2).elim⟩)
    (Cert.ReferenceIdeal.Value.run (F := Ideal) m ρ)

/-- The reference's frame where the ids are in range: the same run. -/
theorem ref_frame_pre : Cert.quiescent_ReferenceIdeal_pre_ids_in_range (hReferenceIdeal := Cert.ReferenceIdeal.Gen.facts) (hPre_ids_in_range := Cert.Pre_ids_in_range.Gen.facts) :=
  fun m ρ _ => ref_frame m ρ trivial

/-- The two results are equal: the kernel ends with the reference's terms of its own arguments. -/
theorem equal : Cert.algebraic_KernelIdeal_ReferenceIdeal_pre_ids_in_range (hKernelIdeal := Cert.KernelIdeal.Gen.facts) (hReferenceIdeal := Cert.ReferenceIdeal.Gen.facts)
    (hPre_ids_in_range := Cert.Pre_ids_in_range.Gen.facts) := by
  intro m g m' g' hpre hargs
  refine ⟨Cert.Equal.prim m, Cert.Equal.full m, ?_, ?_⟩
  · refine (θ_run Cert.KernelIdeal.defs _ _).mono (fun r h c => ?_)
      (Cert.KernelIdeal.Run.run m (Cert.KernelIdeal.Result.R9 m) (Cert.KernelIdeal.Result.R10 m) (Cert.KernelIdeal.Result.meets m) g)
    obtain ⟨A, hA⟩ := h.1 c
    exact ⟨(hA _ (Cert.KernelIdeal.Run.mem_uc Cert.KernelIdeal.main_v10 rfl)).trans (Cert.Equal.prim_eq m c A),
      (hA _ (Cert.KernelIdeal.Run.mem_uc Cert.KernelIdeal.main_v12 rfl)).trans (Cert.Equal.full_eq m (Cert.Equal.ids m hpre) c A),
      (hA _ (Cert.KernelIdeal.Run.mem_uc Cert.KernelIdeal.main_arg0 rfl)).trans (Cert.KernelIdeal.Run.W7_of m _ _ c A Cert.KernelIdeal.main_arg0 (by decide)),
      (hA _ (Cert.KernelIdeal.Run.mem_uc Cert.KernelIdeal.main_arg1 rfl)).trans (Cert.KernelIdeal.Run.W7_of m _ _ c A Cert.KernelIdeal.main_arg1 (by decide)),
      (hA _ (Cert.KernelIdeal.Run.mem_uc Cert.KernelIdeal.main_arg2 rfl)).trans (Cert.KernelIdeal.Run.W7_of m _ _ c A Cert.KernelIdeal.main_arg2 (by decide)),
      (hA _ (Cert.KernelIdeal.Run.mem_uc Cert.KernelIdeal.main_arg3 rfl)).trans (Cert.KernelIdeal.Run.W7_of m _ _ c A Cert.KernelIdeal.main_arg3 (by decide)),
      (hA _ (Cert.KernelIdeal.Run.mem_uc Cert.KernelIdeal.main_arg4 rfl)).trans (Cert.KernelIdeal.Run.W7_of m _ _ c A Cert.KernelIdeal.main_arg4 (by decide)),
      (hA _ (Cert.KernelIdeal.Run.mem_uc Cert.KernelIdeal.main_arg5 rfl)).trans (Cert.KernelIdeal.Run.W7_of m _ _ c A Cert.KernelIdeal.main_arg5 (by decide)),
      (hA _ (Cert.KernelIdeal.Run.mem_uc Cert.KernelIdeal.main_arg6 rfl)).trans (Cert.KernelIdeal.Run.W7_of m _ _ c A Cert.KernelIdeal.main_arg6 (by decide))⟩
  · refine (θ_run Cert.ReferenceIdeal.defs _ _).mono (fun r h c => ⟨(h c).1.trans ?_, (h c).2.1.trans ?_, (h c).2.2⟩)
      (Cert.ReferenceIdeal.Value.run (F := Ideal) m' g')
    · obtain ⟨e0, e1, e2, e3, e4, e5, e6⟩ := hargs c
      rw [e0, e1, e2, e3, e4]
      rfl
    · obtain ⟨e0, e1, e2, e3, e4, e5, e6⟩ := hargs c
      unfold Cert.ReferenceIdeal.Value.res_main_v55
      rw [e0, e1, e2, e3, e4, e5, e6]
      rfl

theorem claim : Cert.Claim := ⟨Cert.Kernel.Gen.facts, Cert.KernelIdeal.Gen.facts, Cert.ReferenceIdeal.Gen.facts, Cert.Pre_ids_in_range.Gen.facts,
  fun m ρ _ => Cert.Kernel.Run.frame m ρ, fun m ρ _ => Cert.KernelIdeal.Run.frame m ρ, fun m ρ _ => Cert.KernelIdeal.Run.frame m ρ,
  ref_frame, ref_frame_pre, trivial, equal⟩

end Cert.Proof

end
